-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk_KernelIdeal [hPre_finite_qk_KernelIdeal : Cert.Pre_finite_qk_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk_ReferenceIdeal [hPre_finite_qk_ReferenceIdeal : Cert.Pre_finite_qk_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk_KernelIdeal [hKernelIdeal : Cert.KernelIdeal.Facts] [hPre_finite_qk_KernelIdeal : Cert.Pre_finite_qk_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk_ReferenceIdeal [hReferenceIdeal : Cert.ReferenceIdeal.Facts] [hPre_finite_qk_ReferenceIdeal : Cert.Pre_finite_qk_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_qk_KernelIdeal [hKernelIdeal : Cert.KernelIdeal.Facts] [hReferenceIdeal : Cert.ReferenceIdeal.Facts] [hPre_finite_qk_KernelIdeal : Cert.Pre_finite_qk_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨4, ![16, 1024, 16, 64]⟩ ⟨4, ![16, 2048, 16, 64]⟩ (Layout.meshBlock [2, 2, 2] ![[], [1], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![16, 1024, 16, 64]⟩ ⟨4, ![16, 2048, 16, 64]⟩ (Layout.meshBlock [2, 2, 2] ![[], [1], [], []] c) (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_qk_KernelIdeal : Cert.Pre_finite_qk_KernelIdeal.Facts) (hPre_finite_qk_ReferenceIdeal : Cert.Pre_finite_qk_ReferenceIdeal.Facts),
    quiescent_Kernel (hKernel := hKernel)
    ∧ quiescent_KernelIdeal (hKernelIdeal := hKernelIdeal)
    ∧ quiescent_KernelIdeal_pre_finite_qk_KernelIdeal (hKernelIdeal := hKernelIdeal) (hPre_finite_qk_KernelIdeal := hPre_finite_qk_KernelIdeal)
    ∧ quiescent_ReferenceIdeal (hReferenceIdeal := hReferenceIdeal)
    ∧ quiescent_ReferenceIdeal_pre_finite_qk_ReferenceIdeal (hReferenceIdeal := hReferenceIdeal) (hPre_finite_qk_ReferenceIdeal := hPre_finite_qk_ReferenceIdeal)
    ∧ preserves_Kernel_KernelIdeal
    ∧ algebraic_KernelIdeal_ReferenceIdeal_pre_finite_qk_KernelIdeal (hKernelIdeal := hKernelIdeal) (hReferenceIdeal := hReferenceIdeal) (hPre_finite_qk_KernelIdeal := hPre_finite_qk_KernelIdeal)
-- ==== Pre_finite_qk_KernelIdeal.lean ====
abbrev S16x1x16x64 : Shape := ⟨4, ![16, 1, 16, 64]⟩
abbrev S16x1024x16x64 : Shape := ⟨4, ![16, 1024, 16, 64]⟩
abbrev S_ : Shape := ⟨0, ![]⟩

class Facts : Prop where
  bcast_S_S16x1x16x64 : S_.BroadcastsInDim S16x1x16x64 (![] : Fin 0 → Fin S16x1x16x64.rank)
  reducesTo_S16x1x16x64_S_d0_1_2_3 : S16x1x16x64.ReducesTo [0, 1, 2, 3] S_
  h_S_ : 0 < S_.numel
  bcast_S_S16x1024x16x64 : S_.BroadcastsInDim S16x1024x16x64 (![] : Fin 0 → Fin S16x1024x16x64.rank)
  reducesTo_S16x1024x16x64_S_d0_1_2_3 : S16x1024x16x64.ReducesTo [0, 1, 2, 3] S_

variable [Facts]

def fn {F : FTy → Type} [FloatOps F] (main_arg0 : FVec F S16x1x16x64 .f32) (main_arg1 : FVec F S16x1024x16x64 .f32) (main_arg2 : FVec F S16x1024x16x64 .f32) : IVec S_ 1 :=
  let main_v0 : FVec F S16x1x16x64 .f32 := Host.absf main_arg0
  let main_cst : FVec F S_ .f32 := constant S_ .f32 0x7F800000#32
  let main_v1 : FVec F S16x1x16x64 .f32 := broadcastInDim S16x1x16x64 ![] bcast_S_S16x1x16x64 main_cst
  let main_v2 : IVec S16x1x16x64 1 := cmpf .olt main_v0 main_v1
  let main_c : IVec S_ 1 := constantI S_ 1 1#1
  let main_v3 : IVec S_ 1 := (fun x v => Host.reduce IntOp.andi x v reducesTo_S16x1x16x64_S_d0_1_2_3 h_S_) main_v2 main_c
  let main_v4 : FVec F S16x1024x16x64 .f32 := Host.absf main_arg1
  let main_cst_0 : FVec F S_ .f32 := constant S_ .f32 0x7F800000#32
  let main_v5 : FVec F S16x1024x16x64 .f32 := broadcastInDim S16x1024x16x64 ![] bcast_S_S16x1024x16x64 main_cst_0
  let main_v6 : IVec S16x1024x16x64 1 := cmpf .olt main_v4 main_v5
  let main_c_1 : IVec S_ 1 := constantI S_ 1 1#1
  let main_v7 : IVec S_ 1 := (fun x v => Host.reduce IntOp.andi x v reducesTo_S16x1024x16x64_S_d0_1_2_3 h_S_) main_v6 main_c_1
  let main_v8 : IVec S_ 1 := andi main_v3 main_v7
  main_v8
-- ==== Pre_finite_qk_ReferenceIdeal.lean ====
abbrev S16x1x16x64 : Shape := ⟨4, ![16, 1, 16, 64]⟩
abbrev S16x2048x16x64 : Shape := ⟨4, ![16, 2048, 16, 64]⟩
abbrev S_ : Shape := ⟨0, ![]⟩

class Facts : Prop where
  bcast_S_S16x1x16x64 : S_.BroadcastsInDim S16x1x16x64 (![] : Fin 0 → Fin S16x1x16x64.rank)
  reducesTo_S16x1x16x64_S_d0_1_2_3 : S16x1x16x64.ReducesTo [0, 1, 2, 3] S_
  h_S_ : 0 < S_.numel
  bcast_S_S16x2048x16x64 : S_.BroadcastsInDim S16x2048x16x64 (![] : Fin 0 → Fin S16x2048x16x64.rank)
  reducesTo_S16x2048x16x64_S_d0_1_2_3 : S16x2048x16x64.ReducesTo [0, 1, 2, 3] S_

variable [Facts]

def fn {F : FTy → Type} [FloatOps F] (main_arg0 : FVec F S16x1x16x64 .f32) (main_arg1 : FVec F S16x2048x16x64 .f32) (main_arg2 : FVec F S16x2048x16x64 .f32) : IVec S_ 1 :=
  let main_v0 : FVec F S16x1x16x64 .f32 := Host.absf main_arg0
  let main_cst : FVec F S_ .f32 := constant S_ .f32 0x7F800000#32
  let main_v1 : FVec F S16x1x16x64 .f32 := broadcastInDim S16x1x16x64 ![] bcast_S_S16x1x16x64 main_cst
  let main_v2 : IVec S16x1x16x64 1 := cmpf .olt main_v0 main_v1
  let main_c : IVec S_ 1 := constantI S_ 1 1#1
  let main_v3 : IVec S_ 1 := (fun x v => Host.reduce IntOp.andi x v reducesTo_S16x1x16x64_S_d0_1_2_3 h_S_) main_v2 main_c
  let main_v4 : FVec F S16x2048x16x64 .f32 := Host.absf main_arg1
  let main_cst_0 : FVec F S_ .f32 := constant S_ .f32 0x7F800000#32
  let main_v5 : FVec F S16x2048x16x64 .f32 := broadcastInDim S16x2048x16x64 ![] bcast_S_S16x2048x16x64 main_cst_0
  let main_v6 : IVec S16x2048x16x64 1 := cmpf .olt main_v4 main_v5
  let main_c_1 : IVec S_ 1 := constantI S_ 1 1#1
  let main_v7 : IVec S_ 1 := (fun x v => Host.reduce IntOp.andi x v reducesTo_S16x2048x16x64_S_d0_1_2_3 h_S_) main_v6 main_c_1
  let main_v8 : IVec S_ 1 := andi main_v3 main_v7
  main_v8
-- ==== Kernel.lean ====
abbrev S16x1x16x64 : Shape := ⟨4, ![16, 1, 16, 64]⟩
abbrev S16x1024x16x64 : Shape := ⟨4, ![16, 1024, 16, 64]⟩
abbrev S16x16x64x1024 : Shape := ⟨4, ![16, 16, 64, 1024]⟩
abbrev S16x1x1024 : Shape := ⟨3, ![16, 1, 1024]⟩
abbrev S_ : Shape := ⟨0, ![]⟩
abbrev S1 : Shape := ⟨1, ![1]⟩
abbrev S16x16x1 : Shape := ⟨3, ![16, 16, 1]⟩
abbrev S4x1x1024 : Shape := ⟨3, ![4, 1, 1024]⟩
abbrev S4x16x64x256 : Shape := ⟨4, ![4, 16, 64, 256]⟩
abbrev S4x16x1 : Shape := ⟨3, ![4, 16, 1]⟩
abbrev S16x1024 : Shape := ⟨2, ![16, 1024]⟩
abbrev S1x16x64x256 : Shape := ⟨4, ![1, 16, 64, 256]⟩
abbrev S16x64x256 : Shape := ⟨3, ![16, 64, 256]⟩
abbrev S1024x256 : Shape := ⟨2, ![1024, 256]⟩
abbrev S1x1x1024 : Shape := ⟨3, ![1, 1, 1024]⟩
abbrev S1x1024 : Shape := ⟨2, ![1, 1024]⟩
abbrev S16x256 : Shape := ⟨2, ![16, 256]⟩
abbrev S16 : Shape := ⟨1, ![16]⟩
abbrev S16x1 : Shape := ⟨2, ![16, 1]⟩
abbrev S1024 : Shape := ⟨1, ![1024]⟩
abbrev S1x16x1 : Shape := ⟨3, ![1, 16, 1]⟩
abbrev S16x16 : Shape := ⟨2, ![16, 16]⟩
abbrev S2x16x16 : Shape := ⟨3, ![2, 16, 16]⟩
abbrev S3x16x1024 : Shape := ⟨3, ![3, 16, 1024]⟩
abbrev S3x2x16x16 : Shape := ⟨4, ![3, 2, 16, 16]⟩
abbrev S3 : Shape := ⟨1, ![3]⟩
abbrev S1x16x16 : Shape := ⟨3, ![1, 16, 16]⟩
abbrev S1x16x1024 : Shape := ⟨3, ![1, 16, 1024]⟩
abbrev S1x2x16x16 : Shape := ⟨4, ![1, 2, 16, 16]⟩
abbrev S1x1x16x16 : Shape := ⟨4, ![1, 1, 16, 16]⟩

abbrev nBuf : Space → Nat
  | .hbm => 29
  | .vmem => 20
  | .smem => 1
  | _ => 0

abbrev bufTy : (tb : Table) → Fin (tcTables nBuf tb) → BufTy
  | .hbm, ⟨0, _⟩ => ⟨S16x1x16x64, .f32⟩
  | .hbm, ⟨1, _⟩ => ⟨S16x1024x16x64, .f32⟩
  | .hbm, ⟨2, _⟩ => ⟨S16x1024x16x64, .f32⟩
  | .hbm, ⟨3, _⟩ => ⟨S16x16x64x1024, .f32⟩
  | .hbm, ⟨4, _⟩ => ⟨S16x16x64x1024, .f32⟩
  | .hbm, ⟨5, _⟩ => ⟨S16x1x1024, .f32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S16x1x1024, .f32⟩
  | .hbm, ⟨22, _⟩ => ⟨S16x16x1, .f32⟩
  | .hbm, ⟨23, _⟩ => ⟨S16x16x1, .f32⟩
  | .hbm, ⟨24, _⟩ => ⟨S16x1024, .f32⟩
  | .hbm, ⟨25, _⟩ => ⟨S16x16, .f32⟩
  | .hbm, ⟨26, _⟩ => ⟨S16x16, .f32⟩
  | .hbm, ⟨27, _⟩ => ⟨S16x1024, .f32⟩
  | .hbm, ⟨28, _⟩ => ⟨S16x1x16x64, .f32⟩
  | .local _ .vmem, ⟨0, _⟩ => ⟨S4x1x1024, .f32⟩
  | .local _ .vmem, ⟨1, _⟩ => ⟨S4x1x1024, .f32⟩
  | .local _ .vmem, ⟨2, _⟩ => ⟨S4x16x64x256, .f32⟩
  | .local _ .vmem, ⟨3, _⟩ => ⟨S4x16x64x256, .f32⟩
  | .local _ .vmem, ⟨4, _⟩ => ⟨S4x16x64x256, .f32⟩
  | .local _ .vmem, ⟨5, _⟩ => ⟨S4x16x64x256, .f32⟩
  | .local _ .vmem, ⟨6, _⟩ => ⟨S4x1x1024, .f32⟩
  | .local _ .vmem, ⟨7, _⟩ => ⟨S4x1x1024, .f32⟩
  | .local _ .vmem, ⟨8, _⟩ => ⟨S4x16x1, .f32⟩
  | .local _ .vmem, ⟨9, _⟩ => ⟨S4x16x1, .f32⟩
  | .local _ .vmem, ⟨10, _⟩ => ⟨S4x16x1, .f32⟩
  | .local _ .vmem, ⟨11, _⟩ => ⟨S4x16x1, .f32⟩
  | .local _ .vmem, ⟨12, _⟩ => ⟨S16x1024, .f32⟩
  | .local _ .vmem, ⟨13, _⟩ => ⟨S16x16, .f32⟩
  | .local _ .vmem, ⟨14, _⟩ => ⟨S16x16, .f32⟩
  | .local _ .vmem, ⟨15, _⟩ => ⟨S16x1024, .f32⟩
  | .local _ .vmem, ⟨16, _⟩ => ⟨S16x1024, .f32⟩
  | .local _ .vmem, ⟨17, _⟩ => ⟨S2x16x16, .f32⟩
  | .local _ .vmem, ⟨18, _⟩ => ⟨S3x16x1024, .f32⟩
  | .local _ .vmem, ⟨19, _⟩ => ⟨S3x2x16x16, .f32⟩
  | .local _ .smem, ⟨0, _⟩ => ⟨S1, .i32⟩
  | _, _ => ⟨S16x1x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 1 → Bool
  | ⟨0, _⟩ => false
  | _ => false

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  (ofTc nBuf bufTy 1 28 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_c_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c_1 : Ref sig .tc := ⟨.hbm, 12, rfl⟩
abbrev main_v8 : Ref sig .tc := ⟨.hbm, 13, rfl⟩
abbrev main_c_2 : Ref sig .tc := ⟨.hbm, 14, rfl⟩
abbrev main_c_3 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v15_0 : Ref sig .tc := ⟨.hbm, 21, rfl⟩
abbrev main_v15_1 : Ref sig .tc := ⟨.hbm, 22, rfl⟩
abbrev main_v15_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v14 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_scratch0 : Ref sig .tc := ⟨.vmem, 16, rfl⟩
abbrev cc1_scratch1 : Ref sig .tc := ⟨.vmem, 17, rfl⟩
abbrev cc1_scratch2 : Ref sig .tc := ⟨.vmem, 18, rfl⟩
abbrev cc1_scratch3 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem1_0 : DmaSem sig := 13
abbrev cc1_sem2_0 : DmaSem sig := 14
abbrev cc1_sem3_0 : DmaSem sig := 15
abbrev barrier0 : Sem sig := 0

abbrev nD : Nat := 8
abbrev τ : Topo := Topo.v7x

variable {F : FTy → Type} [FloatOps F]

abbrev grid0 : Pipeline.Grid := ⟨1, ![4], ![false]⟩

abbrev pre0 : Pipeline.Prefetch sig := ⟨1, ![main_v14.idx], fun | 0 => main_v14.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  let c0_i32_1 : BitVec 32 := 0#32
  ![arg0.toNat, c0_i32.toNat, c0_i32_0.toNat, v0.toNat]

def cc0_transform_2 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  let c0_i32_1 : BitVec 32 := 0#32
  ![arg0.toNat, c0_i32.toNat, c0_i32_0.toNat, v0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x16x64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x16x64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x16x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x16x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := .none

def k1_dev1 (d0 : Dev nD) : Nat :=
  let c0_i32 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_7 : BitVec 32 := 4#32
  let v13 : BitVec 32 := Scalar.muli v9 c4_i32_7
  let v14 : BitVec 32 := Scalar.addi c0_i32 v13
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_8 : BitVec 32 := 2#32
  let v15 : BitVec 32 := Scalar.muli v5 c2_i32_8
  let v16 : BitVec 32 := Scalar.addi v14 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_9 : BitVec 32 := 1#32
  let v17 : BitVec 32 := Scalar.muli v8 c1_i32_9
  let v18 : BitVec 32 := Scalar.addi v16 v17
  v18.toNat
def k1_dev2 (d0 : Dev nD) : Nat :=
  let c0_i32_12 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_11 : BitVec 32 := 4#32
  let v19 : BitVec 32 := Scalar.muli v2 c4_i32_11
  let v20 : BitVec 32 := Scalar.addi c0_i32_12 v19
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_13 : BitVec 32 := 2#32
  let v21 : BitVec 32 := Scalar.muli v10 c2_i32_13
  let v22 : BitVec 32 := Scalar.addi v20 v21
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_14 : BitVec 32 := 1#32
  let v23 : BitVec 32 := Scalar.muli v8 c1_i32_14
  let v24 : BitVec 32 := Scalar.addi v22 v23
  v24.toNat
def k1_dev3 (d0 : Dev nD) : Nat :=
  let c0_i32_17 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_16 : BitVec 32 := 4#32
  let v25 : BitVec 32 := Scalar.muli v2 c4_i32_16
  let v26 : BitVec 32 := Scalar.addi c0_i32_17 v25
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_18 : BitVec 32 := 2#32
  let v27 : BitVec 32 := Scalar.muli v5 c2_i32_18
  let v28 : BitVec 32 := Scalar.addi v26 v27
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_19 : BitVec 32 := 1#32
  let v29 : BitVec 32 := Scalar.muli v11 c1_i32_19
  let v30 : BitVec 32 := Scalar.addi v28 v29
  v30.toNat
def k1_dev4 (d0 : Dev nD) : Nat :=
  let c0_i32_42 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_41 : BitVec 32 := 4#32
  let v75 : BitVec 32 := Scalar.muli v9 c4_i32_41
  let v76 : BitVec 32 := Scalar.addi c0_i32_42 v75
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_43 : BitVec 32 := 2#32
  let v77 : BitVec 32 := Scalar.muli v5 c2_i32_43
  let v78 : BitVec 32 := Scalar.addi v76 v77
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_44 : BitVec 32 := 1#32
  let v79 : BitVec 32 := Scalar.muli v8 c1_i32_44
  let v80 : BitVec 32 := Scalar.addi v78 v79
  v80.toNat
def k1_dev5 (d0 : Dev nD) : Nat :=
  let c0_i32_51 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_50 : BitVec 32 := 4#32
  let v87 : BitVec 32 := Scalar.muli v9 c4_i32_50
  let v88 : BitVec 32 := Scalar.addi c0_i32_51 v87
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_52 : BitVec 32 := 2#32
  let v89 : BitVec 32 := Scalar.muli v5 c2_i32_52
  let v90 : BitVec 32 := Scalar.addi v88 v89
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_53 : BitVec 32 := 1#32
  let v91 : BitVec 32 := Scalar.muli v8 c1_i32_53
  let v92 : BitVec 32 := Scalar.addi v90 v91
  v92.toNat
def k1_dev6 (d0 : Dev nD) : Nat :=
  let c0_i32_121 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_120 : BitVec 32 := 4#32
  let v160 : BitVec 32 := Scalar.muli v2 c4_i32_120
  let v161 : BitVec 32 := Scalar.addi c0_i32_121 v160
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_122 : BitVec 32 := 2#32
  let v162 : BitVec 32 := Scalar.muli v10 c2_i32_122
  let v163 : BitVec 32 := Scalar.addi v161 v162
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_123 : BitVec 32 := 1#32
  let v164 : BitVec 32 := Scalar.muli v8 c1_i32_123
  let v165 : BitVec 32 := Scalar.addi v163 v164
  v165.toNat
def k1_dev7 (d0 : Dev nD) : Nat :=
  let c0_i32_130 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_129 : BitVec 32 := 4#32
  let v172 : BitVec 32 := Scalar.muli v2 c4_i32_129
  let v173 : BitVec 32 := Scalar.addi c0_i32_130 v172
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_131 : BitVec 32 := 2#32
  let v174 : BitVec 32 := Scalar.muli v10 c2_i32_131
  let v175 : BitVec 32 := Scalar.addi v173 v174
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_132 : BitVec 32 := 1#32
  let v176 : BitVec 32 := Scalar.muli v8 c1_i32_132
  let v177 : BitVec 32 := Scalar.addi v175 v176
  v177.toNat
def k1_dev8 (d0 : Dev nD) : Nat :=
  let c0_i32_201 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_200 : BitVec 32 := 4#32
  let v245 : BitVec 32 := Scalar.muli v2 c4_i32_200
  let v246 : BitVec 32 := Scalar.addi c0_i32_201 v245
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_202 : BitVec 32 := 2#32
  let v247 : BitVec 32 := Scalar.muli v5 c2_i32_202
  let v248 : BitVec 32 := Scalar.addi v246 v247
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_203 : BitVec 32 := 1#32
  let v249 : BitVec 32 := Scalar.muli v11 c1_i32_203
  let v250 : BitVec 32 := Scalar.addi v248 v249
  v250.toNat
def k1_dev9 (d0 : Dev nD) : Nat :=
  let c0_i32_210 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_209 : BitVec 32 := 4#32
  let v257 : BitVec 32 := Scalar.muli v2 c4_i32_209
  let v258 : BitVec 32 := Scalar.addi c0_i32_210 v257
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_211 : BitVec 32 := 2#32
  let v259 : BitVec 32 := Scalar.muli v5 c2_i32_211
  let v260 : BitVec 32 := Scalar.addi v258 v259
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_212 : BitVec 32 := 1#32
  let v261 : BitVec 32 := Scalar.muli v11 c1_i32_212
  let v262 : BitVec 32 := Scalar.addi v260 v261
  v262.toNat
abbrev stage1_0 : Fin 1 → Memref sig .tc .vmem S16x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S16x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S16x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S16x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
-- ==== ReferenceIdeal.lean ====
abbrev S16x1x16x64 : Shape := ⟨4, ![16, 1, 16, 64]⟩
abbrev S16x2048x16x64 : Shape := ⟨4, ![16, 2048, 16, 64]⟩
abbrev S16x16x1x2048 : Shape := ⟨4, ![16, 16, 1, 2048]⟩
abbrev S_ : Shape := ⟨0, ![]⟩
abbrev S16x16x1 : Shape := ⟨3, ![16, 16, 1]⟩
abbrev S16x16x1x1 : Shape := ⟨4, ![16, 16, 1, 1]⟩
abbrev S16x16x64x1 : Shape := ⟨4, ![16, 16, 64, 1]⟩

abbrev nBuf : Space → Nat
  | .hbm => 20
  | .vmem => 0
  | .smem => 0
  | _ => 0

abbrev bufTy : (tb : Table) → Fin (tcTables nBuf tb) → BufTy
  | .hbm, ⟨0, _⟩ => ⟨S16x1x16x64, .f32⟩
  | .hbm, ⟨1, _⟩ => ⟨S16x2048x16x64, .f32⟩
  | .hbm, ⟨2, _⟩ => ⟨S16x2048x16x64, .f32⟩
  | .hbm, ⟨3, _⟩ => ⟨S16x16x1x2048, .f32⟩
  | .hbm, ⟨4, _⟩ => ⟨S_, .f32⟩
  | .hbm, ⟨5, _⟩ => ⟨S16x16x1x2048, .f32⟩
  | .hbm, ⟨6, _⟩ => ⟨S16x16x1x2048, .f32⟩
  | .hbm, ⟨7, _⟩ => ⟨S_, .f32⟩
  | .hbm, ⟨8, _⟩ => ⟨S16x16x1, .f32⟩
  | .hbm, ⟨9, _⟩ => ⟨S16x16x1x1, .f32⟩
  | .hbm, ⟨10, _⟩ => ⟨S16x16x1x2048, .f32⟩
  | .hbm, ⟨11, _⟩ => ⟨S16x16x1x2048, .f32⟩
  | .hbm, ⟨12, _⟩ => ⟨S16x16x1x2048, .f32⟩
  | .hbm, ⟨13, _⟩ => ⟨S_, .f32⟩
  | .hbm, ⟨14, _⟩ => ⟨S16x16x1, .f32⟩
  | .hbm, ⟨15, _⟩ => ⟨S16x16x1x1, .f32⟩
  | .hbm, ⟨16, _⟩ => ⟨S16x16x1x2048, .f32⟩
  | .hbm, ⟨17, _⟩ => ⟨S16x16x1x2048, .f32⟩
  | .hbm, ⟨18, _⟩ => ⟨S16x16x64x1, .f32⟩
  | .hbm, ⟨19, _⟩ => ⟨S16x1x16x64, .f32⟩
  | _, _ => ⟨S16x1x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.KernelIdeal.Steps.lean ====
/-
  The combining kernel read as three exchanges: the peers, the slabs a partner's partial result lands in, the
  semaphores of each exchange, and the printed body as `start`, three times `step`, `finish`.
-/
module

public import proofs.«01_k».proof.Proof.Gen.KernelIdeal.Skeleton
public import proofs.«01_k».proof.Proof.Gen.KernelIdeal.Launch

@[expose] public section

noncomputable section

namespace Cert.KernelIdeal.Comb

open Idealize.ShloMosaic Idealize.ShloMosaic.TcCoe Idealize.SL.Sem
open Cert.KernelIdeal Cert.KernelIdeal.Gen

variable {F : FTy → Type} [FloatOps F]

/-! ## The partners -/

/-- The device that differs from `c` in one mesh coordinate: the first axis at exchange 0, the second at 1, the third at 2. -/
def peer (h : Fin 3) (c : Dev nD) : Dev nD :=
  match h with
  | 0 => ⟨(c.val + 4) % 8, Nat.mod_lt _ (by decide)⟩
  | 1 => ⟨if c.val / 2 % 2 = 0 then (c.val + 2) % 8 else (c.val + 6) % 8, by split <;> exact Nat.mod_lt _ (by decide)⟩
  | 2 => ⟨if c.val % 2 = 0 then (c.val + 1) % 8 else (c.val + 7) % 8, by split <;> exact Nat.mod_lt _ (by decide)⟩

/-- Partners are mutual. -/
theorem peer_peer : ∀ (h : Fin 3) (c : Dev nD), peer h (peer h c) = c := by decide
/-- The three partners of a device are three devices. -/
theorem peer_inj : ∀ (h h' : Fin 3) (c : Dev nD), peer h c = peer h' c → h = h' := by decide
theorem peer_ne : ∀ (h : Fin 3) (c : Dev nD), peer h c ≠ c := by decide

theorem dev1_eq (c : Dev nD) : (⟨k1_dev1 c, k1_dev1_lt c⟩ : Dev nD) = peer 0 c := by revert c; decide +kernel
theorem dev2_eq (c : Dev nD) : (⟨k1_dev2 c, k1_dev2_lt c⟩ : Dev nD) = peer 1 c := by revert c; decide +kernel
theorem dev3_eq (c : Dev nD) : (⟨k1_dev3 c, k1_dev3_lt c⟩ : Dev nD) = peer 2 c := by revert c; decide +kernel
theorem dev4_eq (c : Dev nD) : (⟨k1_dev4 c, k1_dev4_lt c⟩ : Dev nD) = peer 0 c := by revert c; decide +kernel
theorem dev5_eq (c : Dev nD) : (⟨k1_dev5 c, k1_dev5_lt c⟩ : Dev nD) = peer 0 c := by revert c; decide +kernel
theorem dev6_eq (c : Dev nD) : (⟨k1_dev6 c, k1_dev6_lt c⟩ : Dev nD) = peer 1 c := by revert c; decide +kernel
theorem dev7_eq (c : Dev nD) : (⟨k1_dev7 c, k1_dev7_lt c⟩ : Dev nD) = peer 1 c := by revert c; decide +kernel
theorem dev8_eq (c : Dev nD) : (⟨k1_dev8 c, k1_dev8_lt c⟩ : Dev nD) = peer 2 c := by revert c; decide +kernel
theorem dev9_eq (c : Dev nD) : (⟨k1_dev9 c, k1_dev9_lt c⟩ : Dev nD) = peer 2 c := by revert c; decide +kernel

/-! ## The buffers and the semaphores -/

/-- The running numerator. -/
abbrev accO : Memref sig .tc .vmem S16x1024 .f32 := Memref.whole cc1_scratch0
/-- The running maximum (row 0) and denominator (row 1). -/
abbrev accL : Memref sig .tc .vmem S2x16x16 .f32 := Memref.whole cc1_scratch1
/-- The three landing slabs for a partner's numerator. -/
abbrev landO : Memref sig .tc .vmem S3x16x1024 .f32 := Memref.whole cc1_scratch2
/-- The three landing slabs for a partner's maximum and denominator. -/
abbrev landL : Memref sig .tc .vmem S3x2x16x16 .f32 := Memref.whole cc1_scratch3

theorem inbO (h : Fin 3) : ∀ a, (![h.val, 0, 0] : Fin 3 → ℕ) a + S1x16x1024.size a ≤ S3x16x1024.size a := by revert h; decide
theorem inbL (h : Fin 3) : ∀ a, (![h.val, 0, 0, 0] : Fin 4 → ℕ) a + S1x2x16x16.size a ≤ S3x2x16x16.size a := by revert h; decide
theorem inbR (h : Fin 3) (r : Fin 2) : ∀ a, (![h.val, r.val, 0, 0] : Fin 4 → ℕ) a + S1x1x16x16.size a ≤ S3x2x16x16.size a := by revert h r; decide
theorem inbA (r : Fin 2) : ∀ a, (![r.val, 0, 0] : Fin 3 → ℕ) a + S1x16x16.size a ≤ S2x16x16.size a := by revert r; decide
theorem inbS (h : Fin 3) : ∀ a, (![h.val] : Fin 1 → ℕ) a + S1.size a ≤ S3.size a := by revert h; decide

/-- Slab `h` of the numerators' landing buffer. -/
abbrev slabO (h : Fin 3) : Memref sig .tc .vmem S16x1024 .f32 :=
  (landO.slice (Rect.unit (s := S3x16x1024) ![h.val, 0, 0] S1x16x1024.size (inbO h)) (fun _ => rfl)).squeeze S16x1024 squeezes_S1x16x1024_S16x1024
/-- Slab `h` of the maxima's and denominators' landing buffer. -/
abbrev slabL (h : Fin 3) : Memref sig .tc .vmem S2x16x16 .f32 :=
  (landL.slice (Rect.unit (s := S3x2x16x16) ![h.val, 0, 0, 0] S1x2x16x16.size (inbL h)) (fun _ => rfl)).squeeze S2x16x16 squeezes_S1x2x16x16_S2x16x16

/-- The semaphore of exchange `h` in an array of three. -/
abbrev semAt (a : DmaSems sig S3) (h : Fin 3) : DmaSem sig :=
  ((a.slice (Rect.unit (s := S3) ![h.val] S1.size (inbS h))).squeeze S_ squeezes_S1_S_).sem
/-- Numerator sent. -/
abbrev sendO (h : Fin 3) : DmaSem sig := semAt cc1_scratch4 h
/-- Numerator landed. -/
abbrev recvO (h : Fin 3) : DmaSem sig := semAt cc1_scratch5 h
/-- Maximum and denominator sent. -/
abbrev sendL (h : Fin 3) : DmaSem sig := semAt cc1_scratch6 h
/-- Maximum and denominator landed. -/
abbrev recvL (h : Fin 3) : DmaSem sig := semAt cc1_scratch7 h
/-- The barrier's semaphore. -/
abbrev barS : Sem sig := (SemArray.scalar (sig.barrier 0 rfl) : Sems sig S_).sem

/-! ## The body as exchanges -/

/-- The head mask: entry `(h, d)` is one where column `d` belongs to head `h`, zero elsewhere. -/
def mask : FVec F S16x1024 .f32 :=
  k1_pay8 (F := F) (iota .tc S16x1024 32 [0] iota_S16x1024_d0_w32) k1_pay5 k1_pay6 k1_pay7 0#32

abbrev ldFull (m : Memref sig .tc .vmem S16x1024 .f32) : Prog (TpuEff nD τ sig (Elt F) Λ₀ .tc) (Vec F S16x1024 .f32) :=
  Prog.lift (.load m (Rect.unit (s := S16x1024) ![0, 0] S16x1024.size inb_S16x1024_S16x1024_0_0).toLoadRect (View.loadsAt_vmem h_S16x1024))
abbrev stFull (m : Memref sig .tc .vmem S16x1024 .f32) (w : Vec F S16x1024 .f32) : Prog (TpuEff nD τ sig (Elt F) Λ₀ .tc) PUnit :=
  Prog.lift (.store m (Rect.unit (s := S16x1024) ![0, 0] S16x1024.size inb_S16x1024_S16x1024_0_0) w Finset.univ (View.stores_vmem_bits_univ h_S16x1024 rfl) (.inl rfl))
abbrev ldSmall (m : Memref sig .tc .vmem S16x16 .f32) : Prog (TpuEff nD τ sig (Elt F) Λ₀ .tc) (Vec F S16x16 .f32) :=
  Prog.lift (.load m (Rect.unit (s := S16x16) ![0, 0] S16x16.size inb_S16x16_S16x16_0_0).toLoadRect (View.loadsAt_vmem h_S16x16))
abbrev ldRow (r : Fin 2) : Prog (TpuEff nD τ sig (Elt F) Λ₀ .tc) (Vec F S1x16x16 .f32) :=
  Prog.lift (.load accL (Rect.unit (s := S2x16x16) ![r.val, 0, 0] S1x16x16.size (inbA r)).toLoadRect (View.loadsAt_vmem h_S1x16x16))
abbrev stRow (r : Fin 2) (w : Vec F S1x16x16 .f32) : Prog (TpuEff nD τ sig (Elt F) Λ₀ .tc) PUnit :=
  Prog.lift (.store accL (Rect.unit (s := S2x16x16) ![r.val, 0, 0] S1x16x16.size (inbA r)) w Finset.univ (View.stores_vmem_bits_univ h_S1x16x16 rfl) (.inl rfl))
abbrev ldLandO (h : Fin 3) : Prog (TpuEff nD τ sig (Elt F) Λ₀ .tc) (Vec F S1x16x1024 .f32) :=
  Prog.lift (.load landO (Rect.unit (s := S3x16x1024) ![h.val, 0, 0] S1x16x1024.size (inbO h)).toLoadRect (View.loadsAt_vmem h_S1x16x1024))
abbrev ldLandL (h : Fin 3) (r : Fin 2) : Prog (TpuEff nD τ sig (Elt F) Λ₀ .tc) (Vec F S1x1x16x16 .f32) :=
  Prog.lift (.load landL (Rect.unit (s := S3x2x16x16) ![h.val, r.val, 0, 0] S1x1x16x16.size (inbR h r)).toLoadRect (View.loadsAt_vmem h_S1x1x16x16))

/-- The barrier: a unit to each of three devices, then three units awaited. -/
def barrier (n₁ n₂ n₃ : Dev nD) : Prog (TpuEff nD τ sig (Elt F) Λ₀ .tc) PUnit := do
  semSignalWord n₁ barS 1#32
  semSignalWord n₂ barS 1#32
  semSignalWord n₃ barS 1#32
  semWaitWord barS 3#32

/-- The partial result of this device, put into the accumulators. -/
def start (m0 : Memref sig .tc .vmem S16x1024 .f32) (m1 m2 : Memref sig .tc .vmem S16x16 .f32) : Prog (TpuEff nD τ sig (Elt F) Λ₀ .tc) PUnit := do
  let v31 ← ldFull m0
  let _ ← ldFull accO
  stFull accO (k1_pay2 v31)
  let v36 ← ldSmall m1
  let _ ← ldRow 0
  stRow 0 (k1_pay3 v36)
  let v41 ← ldSmall m2
  let _ ← ldRow 1
  stRow 1 (k1_pay4 v41)

/-- Exchange `h`: both accumulators to the partner, both of the partner's landed, both sends done. -/
def swap (h : Fin 3) (n n' : Dev nD) : Prog (TpuEff nD τ sig (Elt F) Λ₀ .tc) PUnit := do
  Prog.lift (.enqueueDma accO (.remote (Dev.tc n) (slabO h) (.dma (sendO h))) (.dma (recvO h)) (Memref.isWhole_whole _).wordExact ((View.wordExact_bits rfl).reshape _ _) ⟨⟨rfl, Or.inl rfl⟩, trivial⟩)
  Prog.lift (.enqueueDma accL (.remote (Dev.tc n') (slabL h) (.dma (sendL h))) (.dma (recvL h)) (Memref.isWhole_whole _).wordExact ((View.wordExact_bits rfl).reshape _ _) ⟨⟨rfl, Or.inl rfl⟩, trivial⟩)
  Prog.lift (.waitDma2 (sendO h) (slabO h) accO ((View.wordExact_bits rfl).reshape _ _) (Memref.isWhole_whole _).wordExact)
  Prog.lift (.waitDma2 (recvO h) accO (slabO h) (Memref.isWhole_whole _).wordExact ((View.wordExact_bits rfl).reshape _ _))
  Prog.lift (.waitDma2 (sendL h) (slabL h) accL ((View.wordExact_bits rfl).reshape _ _) (Memref.isWhole_whole _).wordExact)
  Prog.lift (.waitDma2 (recvL h) accL (slabL h) (Memref.isWhole_whole _).wordExact ((View.wordExact_bits rfl).reshape _ _))

/-- What landed at exchange `h`, merged into the accumulators. -/
def merge (h : Fin 3) (E : FVec F S16x1024 .f32) : Prog (TpuEff nD τ sig (Elt F) Λ₀ .tc) PUnit := do
  let v127 ← ldRow 0
  let v129 ← ldRow 1
  let v131 ← ldLandL h 0
  let v133 ← ldLandL h 1
  let v140 ← ldFull accO
  let v143 ← ldLandO h
  let _ ← ldFull accO
  stFull accO (k1_pay14 E v127 v131 v140 v143)
  let _ ← ldRow 0
  stRow 0 (k1_pay15 v127 v131)
  let _ ← ldRow 1
  stRow 1 (k1_pay17 (k1_pay16 v127 v129 v131 v133))

/-- The accumulated numerator divided by the accumulated denominator, stored. -/
def finish (m3 : Memref sig .tc .vmem S16x1024 .f32) (E : FVec F S16x1024 .f32) : Prog (TpuEff nD τ sig (Elt F) Λ₀ .tc) PUnit := do
  let v330 ← ldFull accO
  let v331 ← ldRow 1
  let _ ← ldFull m3
  stFull m3 (k1_pay1 E v330 (k1_pay35 v331))

/-- The combining kernel at a device, its partners given by `p`. -/
def comb (m0 : Memref sig .tc .vmem S16x1024 .f32) (m1 m2 : Memref sig .tc .vmem S16x16 .f32) (m3 : Memref sig .tc .vmem S16x1024 .f32)
    (p : Fin 9 → Dev nD) : Prog (TpuEff nD τ sig (Elt F) Λ₀ .tc) PUnit := do
  barrier (p 0) (p 1) (p 2)
  start m0 m1 m2
  swap 0 (p 3) (p 4)
  merge 0 mask
  swap 1 (p 5) (p 6)
  merge 1 mask
  swap 2 (p 7) (p 8)
  merge 2 mask
  finish m3 mask

def devs (c : Dev nD) : Fin 9 → Dev nD :=
  ![⟨k1_dev1 c, k1_dev1_lt c⟩, ⟨k1_dev2 c, k1_dev2_lt c⟩, ⟨k1_dev3 c, k1_dev3_lt c⟩, ⟨k1_dev4 c, k1_dev4_lt c⟩, ⟨k1_dev5 c, k1_dev5_lt c⟩,
    ⟨k1_dev6 c, k1_dev6_lt c⟩, ⟨k1_dev7 c, k1_dev7_lt c⟩, ⟨k1_dev8 c, k1_dev8_lt c⟩, ⟨k1_dev9 c, k1_dev9_lt c⟩]

set_option maxRecDepth 65536 in
/-- The printed combining body is these exchanges. -/
theorem body_eq (m0 : Memref sig .tc .vmem S16x1024 .f32) (h0 : m0.IsWhole) (m1 : Memref sig .tc .vmem S16x16 .f32) (h1 : m1.IsWhole)
    (m2 : Memref sig .tc .vmem S16x16 .f32) (h2 : m2.IsWhole) (m3 : Memref sig .tc .vmem S16x1024 .f32) (h3 : m3.IsWhole) :
    cc1__combine_body (F := F) m0 h0 m1 h1 m2 h2 m3 h3 (Memref.whole cc1_scratch0) (Memref.isWhole_whole _) (Memref.whole cc1_scratch1) (Memref.isWhole_whole _)
        (Memref.whole cc1_scratch2) (Memref.isWhole_whole _) (Memref.whole cc1_scratch3) (Memref.isWhole_whole _) cc1_scratch4 cc1_scratch5 cc1_scratch6 cc1_scratch7
      = (.op .deviceId fun c => comb m0 m1 m2 m3 (devs c)) := by
  rfl

end Cert.KernelIdeal.Comb

end
-- ==== Proof.KernelIdeal.Part.lean ====
/-
  A partial result of attention: the numerator, the running maximum and the running denominator. How two of them merge, how a
  finished one becomes the output, and what the combining kernel's loads and stores read and leave, as these.
-/
module

public import proofs.«01_k».proof.Proof.KernelIdeal.Steps
public import Idealize.ShloMosaic.Lib.VecWindow
public import Idealize.ShloMosaic.Lib.Pipeline.Value

@[expose] public section

noncomputable section

namespace Cert.KernelIdeal.Comb

open Idealize.ShloMosaic Idealize.ShloMosaic.TcCoe Idealize.SL.Sem
open Cert.KernelIdeal Cert.KernelIdeal.Gen

variable {F : FTy → Type} [FloatOps F]

/-- A partial result: numerator, maximum, denominator. -/
@[ext] structure Part (F : FTy → Type) where
  o : FVec F S16x1024 .f32
  m : FVec F S16x16 .f32
  l : FVec F S16x16 .f32

/-- A value per head, spread over the head's sixty-four columns. -/
def spread (x : FVec F S16x16 .f32) : FVec F S16x1024 .f32 :=
  matmul dot_S16x16_S16x1024_S16x1024_1_0_0_1_n_n none x mask (constant S16x1024 .f32 0x00000000#32)

/-- Two partial results merged: both brought to the larger maximum, then added. -/
def Part.merge (a b : Part F) : Part F where
  o := addf (mulf a.o (spread (exp (subf a.m (maximumf a.m b.m))))) (mulf b.o (spread (exp (subf b.m (maximumf a.m b.m)))))
  m := maximumf a.m b.m
  l := addf (mulf a.l (exp (subf a.m (maximumf a.m b.m)))) (mulf b.l (exp (subf b.m (maximumf a.m b.m))))

/-- The output a finished partial result gives. -/
def Part.value (a : Part F) : FVec F S16x1024 .f32 := divf a.o (spread a.l)

/-- What device `c` has accumulated before exchange `n`, from what each device entered with. -/
def gathered (e : Dev nD → Part F) : ℕ → Dev nD → Part F
  | 0, c => e c
  | n + 1, c => (gathered e n c).merge (gathered e n (peer (if h : n < 3 then ⟨n, h⟩ else 0) c))

theorem gathered_zero (e : Dev nD → Part F) (c : Dev nD) : gathered e 0 c = e c := rfl
theorem gathered_succ (e : Dev nD → Part F) (h : Fin 3) (c : Dev nD) :
    gathered e (h.val + 1) c = (gathered e h.val c).merge (gathered e h.val (peer h c)) := by
  show (gathered e h.val c).merge (gathered e h.val (peer (if h' : h.val < 3 then ⟨h.val, h'⟩ else 0) c)) = _
  rw [dif_pos h.isLt]

/-! ## The payloads -/

/-- Row `r` of the pair of maxima and denominators. -/
def row (r : Fin 2) (x : Vec F S2x16x16 .f32) : FVec F S16x16 .f32 :=
  shapeCast S16x16 (VecWindow.window x ![r.val, 0, 0] S1x16x16.size (inbA r)) shapeCasts_S1x16x16_S16x16

theorem pay2_eq (v : Vec F S16x1024 .f32) : k1_pay2 v = v := by
  dsimp only [k1_pay2]; rw [shapeCast_self, shapeCast_self]
theorem pay3_eq (v : Vec F S16x16 .f32) : k1_pay3 v = shapeCast S1x16x16 v shapeCasts_S16x16_S1x16x16 := by
  dsimp only [k1_pay3]; rw [shapeCast_self]
theorem pay4_eq (v : Vec F S16x16 .f32) : k1_pay4 v = shapeCast S1x16x16 v shapeCasts_S16x16_S1x16x16 := by
  dsimp only [k1_pay4]; rw [shapeCast_self]

section Merge
variable {a b : Part F} {v127 v129 : Vec F S1x16x16 .f32} {v131 v133 : Vec F S1x1x16x16 .f32} {v140 : Vec F S16x1024 .f32} {v143 : Vec F S1x16x1024 .f32}
  (h127 : shapeCast S16x16 v127 shapeCasts_S1x16x16_S16x16 = a.m) (h129 : shapeCast S16x16 v129 shapeCasts_S1x16x16_S16x16 = a.l)
  (h131 : shapeCast S16x16 v131 shapeCasts_S1x1x16x16_S16x16 = b.m) (h133 : shapeCast S16x16 v133 shapeCasts_S1x1x16x16_S16x16 = b.l)
  (h140 : v140 = a.o) (h143 : shapeCast S16x1024 v143 shapeCasts_S1x16x1024_S16x1024 = b.o)

include h127 h131 in
/-- The larger maximum. -/
theorem pay11_eq : k1_pay11 v127 v131 = maximumf a.m b.m := by
  unfold k1_pay11 k1_pay9 k1_pay10; rw [h127, h131]

include h127 h131 in
theorem pay12_eq : k1_pay12 v127 v131 = exp (subf a.m (maximumf a.m b.m)) := by
  unfold k1_pay12; rw [pay11_eq h127 h131]; unfold k1_pay9; rw [h127]

include h127 h131 in
theorem pay13_eq : k1_pay13 v127 v131 = exp (subf b.m (maximumf a.m b.m)) := by
  unfold k1_pay13; rw [pay11_eq h127 h131]; unfold k1_pay10; rw [h131]

include h127 h131 h140 h143 in
/-- The merged numerator. -/
theorem pay14_eq : k1_pay14 mask v127 v131 v140 v143 = (a.merge b).o := by
  dsimp only [k1_pay14]; rw [pay12_eq h127 h131, pay13_eq h127 h131, h143, h140, shapeCast_self]; rfl

include h127 h131 in
/-- The merged maximum. -/
theorem pay15_eq : k1_pay15 v127 v131 = shapeCast S1x16x16 (a.merge b).m shapeCasts_S16x16_S1x16x16 := by
  unfold k1_pay15; rw [pay11_eq h127 h131]; rfl

include h127 h129 h131 h133 in
/-- The merged denominator. -/
theorem pay17_eq : k1_pay17 (k1_pay16 v127 v129 v131 v133) = shapeCast S1x16x16 (a.merge b).l shapeCasts_S16x16_S1x16x16 := by
  unfold k1_pay17 k1_pay16; rw [pay12_eq h127 h131, pay13_eq h127 h131, h129, h133]; rfl

end Merge

/-- The output. -/
theorem pay1_eq {a : Part F} {v330 : Vec F S16x1024 .f32} {v331 : Vec F S1x16x16 .f32} (h330 : v330 = a.o)
    (h331 : shapeCast S16x16 v331 shapeCasts_S1x16x16_S16x16 = a.l) : k1_pay1 mask v330 (k1_pay35 v331) = a.value := by
  unfold k1_pay1 k1_pay35; rw [h330, h331]; rfl

/-! ## Loads and stores -/

section Access
variable {sp : Space} {s : Shape} {e : EltTy} {Val : EltTy → Type}

/-- A store over all of a buffer leaves the payload. -/
theorem read_store_full (m : Memref sig .tc sp s e) {off : Fin s.rank → ℕ} (inb : ∀ a, off a + s.size a ≤ s.size a)
    (f : (m.access (Rect.unit off s.size inb)).ty.Contents Val) (w : (Rect.unit off s.size inb).shape.Idx → Val e) :
    m.view.read Val ((m.access (Rect.unit off s.size inb)).write Val f w Finset.univ) = w := by
  have h := View.read_write_univ (v := m.access (Rect.unit off s.size inb)) f w
  funext y
  refine Eq.trans ?_ (congrFun h y)
  exact congrArg (m.view.read Val _) (Rect.emb_unit_full inb y).symm

/-- A store over a window leaves the payload put there. -/
theorem read_store_unit (m : Memref sig .tc sp s e) {off size : Fin s.rank → ℕ} (inb : ∀ a, off a + size a ≤ s.size a)
    (f : (m.access (Rect.unit off size inb)).ty.Contents Val) (w : (Rect.unit off size inb).shape.Idx → Val e) :
    m.view.read Val ((m.access (Rect.unit off size inb)).write Val f w Finset.univ) = VecWindow.put (m.view.read Val f) off size w := by
  have h := View.read_writes_cons_put m.view f inb w [] rfl
  refine Eq.trans ?_ h
  rfl

end Access

/-- The row just stored is the payload. -/
theorem row_store_self (r : Fin 2) (f : accL.view.ty.Contents (Elt F)) (w : FVec F S16x16 .f32) :
    row r (accL.view.read (Elt F) ((accL.access (Rect.unit (s := S2x16x16) ![r.val, 0, 0] S1x16x16.size (inbA r))).write (Elt F) f
      (shapeCast S1x16x16 w shapeCasts_S16x16_S1x16x16) Finset.univ)) = w := by
  unfold row
  rw [read_store_unit, VecWindow.window_put_same]
  exact shapeCast_shapeCast w _ _

/-- The other row is what it was. -/
theorem row_store_other (r r' : Fin 2) (hr : r ≠ r') (f : accL.view.ty.Contents (Elt F)) (w : Vec F S1x16x16 .f32) :
    row r (accL.view.read (Elt F) ((accL.access (Rect.unit (s := S2x16x16) ![r'.val, 0, 0] S1x16x16.size (inbA r'))).write (Elt F) f w Finset.univ))
      = row r (accL.view.read (Elt F) f) := by
  unfold row
  rw [read_store_unit, VecWindow.window_put_of_disjoint _ _ _ _ _ _ _ (0 : Fin 3)]
  show r.val + 1 ≤ r'.val ∨ r'.val + 1 ≤ r.val
  have : r.val ≠ r'.val := fun h => hr (Fin.ext h)
  omega

/-- A row of the accumulator as it is loaded. -/
theorem row_load (r : Fin 2) (f : accL.view.ty.Contents (Elt F)) :
    shapeCast S16x16 (accL.view.readAt (Elt F) (Rect.unit (s := S2x16x16) ![r.val, 0, 0] S1x16x16.size (inbA r)).toLoadRect f) shapeCasts_S1x16x16_S16x16
      = row r (accL.view.read (Elt F) f) := rfl

/-- A landed numerator as it is loaded. -/
theorem landO_load (h : Fin 3) (f : landO.view.ty.Contents (Elt F)) :
    shapeCast S16x1024 (landO.view.readAt (Elt F) (Rect.unit (s := S3x16x1024) ![h.val, 0, 0] S1x16x1024.size (inbO h)).toLoadRect f) shapeCasts_S1x16x1024_S16x1024
      = (slabO h).view.read (Elt F) f := rfl

/-- Two coordinates, three, four, as an index. -/
def ix2 (n₀ n₁ : ℕ) (a : Fin n₀) (b : Fin n₁) : (⟨2, ![n₀, n₁]⟩ : Shape).Idx := fun | 0 => a | 1 => b
def ix3 (n₀ n₁ n₂ : ℕ) (a : Fin n₀) (b : Fin n₁) (c : Fin n₂) : (⟨3, ![n₀, n₁, n₂]⟩ : Shape).Idx := fun | 0 => a | 1 => b | 2 => c
def ix4 (n₀ n₁ n₂ n₃ : ℕ) (a : Fin n₀) (b : Fin n₁) (c : Fin n₂) (d : Fin n₃) : (⟨4, ![n₀, n₁, n₂, n₃]⟩ : Shape).Idx :=
  fun | 0 => a | 1 => b | 2 => c | 3 => d

/-- A row of slab `h` of a stack of pairs, taken at once or slab first. -/
theorem row_slab (h : Fin 3) (r : Fin 2) (X : Vec F S3x2x16x16 .f32) (hc : S1x2x16x16.ShapeCasts S2x16x16) :
    shapeCast S16x16 (VecWindow.window X ![h.val, r.val, 0, 0] S1x1x16x16.size (inbR h r)) shapeCasts_S1x1x16x16_S16x16
      = row r (shapeCast S2x16x16 (VecWindow.window X ![h.val, 0, 0, 0] S1x2x16x16.size (inbL h)) hc) := by
  funext i
  have e1 := shapeCast_apply (VecWindow.window X ![h.val, r.val, 0, 0] S1x1x16x16.size (inbR h r)) shapeCasts_S1x1x16x16_S16x16 i
    (ix4 1 1 16 16 0 0 (i 0) (i 1)) (by
      refine (Shape.rowMajor_val_four _).trans (Eq.trans ?_ (Shape.rowMajor_val_two _).symm)
      show ((0 * 1 + 0) * 16 + (i 0).val) * 16 + (i 1).val = (i 0).val * 16 + (i 1).val
      omega)
  have e2 := shapeCast_apply (VecWindow.window (shapeCast S2x16x16 (VecWindow.window X ![h.val, 0, 0, 0] S1x2x16x16.size (inbL h)) hc) ![r.val, 0, 0] S1x16x16.size (inbA r))
    shapeCasts_S1x16x16_S16x16 i (ix3 1 16 16 0 (i 0) (i 1)) (by
      refine (Shape.rowMajor_val_three _).trans (Eq.trans ?_ (Shape.rowMajor_val_two _).symm)
      show (0 * 16 + (i 0).val) * 16 + (i 1).val = (i 0).val * 16 + (i 1).val
      omega)
  have e3 := shapeCast_apply (VecWindow.window X ![h.val, 0, 0, 0] S1x2x16x16.size (inbL h)) hc
    ((Rect.unit (s := S2x16x16) ![r.val, 0, 0] S1x16x16.size (inbA r)).emb (ix3 1 16 16 0 (i 0) (i 1)))
    (ix4 1 2 16 16 0 r (i 0) (i 1)) (by
      refine (Shape.rowMajor_val_four _).trans (Eq.trans ?_ (Shape.rowMajor_val_three _).symm)
      show ((0 * 2 + r.val) * 16 + (i 0).val) * 16 + (i 1).val = ((r.val + 1 * 0) * 16 + (0 + 1 * (i 0).val)) * 16 + (0 + 1 * (i 1).val)
      omega)
  refine e1.trans (Eq.trans ?_ (e2.trans e3).symm)
  refine congrArg X (funext fun a => Fin.ext ?_)
  match a with
  | ⟨0, _⟩ => rfl
  | ⟨1, _⟩ => show r.val + 1 * 0 = 0 + 1 * r.val; omega
  | ⟨2, _⟩ => rfl
  | ⟨3, _⟩ => rfl

/-- A row of a landed pair as it is loaded. -/
theorem landL_load (h : Fin 3) (r : Fin 2) (f : landL.view.ty.Contents (Elt F)) :
    shapeCast S16x16 (landL.view.readAt (Elt F) (Rect.unit (s := S3x2x16x16) ![h.val, r.val, 0, 0] S1x1x16x16.size (inbR h r)).toLoadRect f) shapeCasts_S1x1x16x16_S16x16
      = row r ((slabL h).view.read (Elt F) f) :=
  row_slab h r (landL.view.read (Elt F) f) squeezes_S1x2x16x16_S2x16x16.numel_eq

end Cert.KernelIdeal.Comb

end
-- ==== Proof.KernelIdeal.Sched.lean ====
/-
  The protocol of the combining kernel: what each semaphore's one round pays, from whom, with what contents.

  On every device: a barrier, three units, one from each partner, each handing over that partner's landing slabs of their
  exchange; and per exchange four semaphores of one payment each, the numerator sent and landed, the maximum and denominator
  sent and landed. What lands at exchange h on device c is what its partner had gathered before exchange h.
-/
module

public import proofs.«01_k».proof.Proof.KernelIdeal.Part
public import Idealize.ShloMosaic.Lib.Pipeline.Regions
public import Idealize.ShloMosaic.Lib.Pipeline.Kit
public import Idealize.ShloMosaic.Lib.Rounds
public import Idealize.ShloMosaic.Lib.StableHlo
public import Idealize.ShloMosaic.Lib.Tactic
public import Idealize.ShloMosaic.PureOps
public import Idealize.ShloMosaic.Lib.Pipeline.RegionTalk

@[expose] public section

noncomputable section

namespace Cert.KernelIdeal.Comb

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-! ## The algebra -/

/-- The pipelines' rounds and, beside them, the combining protocol's, whose barrier has three payers. -/
abbrev UU : Type := UR sig nD τ × URounds (GSem nD τ sig) (Fin 3)

local notation "𝕄" => MT nD τ sig Unit (Elt F) ℕ UU ℕ

abbrev EP : Emb (UR sig nD τ) (MT nD τ sig Unit (Elt F) ℕ UU ℕ) := embL
abbrev ER : Emb (URounds (GSem nD τ sig) (Fin 3)) (MT nD τ sig Unit (Elt F) ℕ UU ℕ) := embR

/-! ## The cells -/

/-- What a semaphore of the protocol is for. -/
inductive Role
  | bar
  | sendO (h : Fin 3)
  | recvO (h : Fin 3)
  | sendL (h : Fin 3)
  | recvL (h : Fin 3)
  deriving DecidableEq

/-- The semaphore of a role. -/
abbrev Role.sem : Role → SemLoc sig
  | .bar => .reg barS
  | .sendO h => .dma (Comb.sendO h)
  | .recvO h => .dma (Comb.recvO h)
  | .sendL h => .dma (Comb.sendL h)
  | .recvL h => .dma (Comb.recvL h)

/-- The role of the transfer semaphore numbered `k`. -/
def roleNat (k : ℕ) : Option Role :=
  if k < 16 then none
  else if k < 19 then some (.sendO ⟨(k - 16) % 3, Nat.mod_lt _ (by decide)⟩)
  else if k < 22 then some (.recvO ⟨(k - 19) % 3, Nat.mod_lt _ (by decide)⟩)
  else if k < 25 then some (.sendL ⟨(k - 22) % 3, Nat.mod_lt _ (by decide)⟩)
  else some (.recvL ⟨(k - 25) % 3, Nat.mod_lt _ (by decide)⟩)
/-- The role of a semaphore. -/
def roleOf : SemLoc sig → Option Role
  | .reg _ => some .bar
  | .dma k => roleNat k.val

theorem sendO_val : ∀ h : Fin 3, (sendO h).val = 16 + h.val := by decide +kernel
theorem recvO_val : ∀ h : Fin 3, (recvO h).val = 19 + h.val := by decide +kernel
theorem sendL_val : ∀ h : Fin 3, (sendL h).val = 22 + h.val := by decide +kernel
theorem recvL_val : ∀ h : Fin 3, (recvL h).val = 25 + h.val := by decide +kernel

theorem roleOf_sem (ρ : Role) : roleOf ρ.sem = some ρ := by
  cases ρ with
  | bar => rfl
  | sendO h => exact (congrArg roleNat (sendO_val h)).trans (by revert h; intro h; match h with | 0 => rfl | 1 => rfl | 2 => rfl)
  | recvO h => exact (congrArg roleNat (recvO_val h)).trans (by revert h; intro h; match h with | 0 => rfl | 1 => rfl | 2 => rfl)
  | sendL h => exact (congrArg roleNat (sendL_val h)).trans (by revert h; intro h; match h with | 0 => rfl | 1 => rfl | 2 => rfl)
  | recvL h => exact (congrArg roleNat (recvL_val h)).trans (by revert h; intro h; match h with | 0 => rfl | 1 => rfl | 2 => rfl)

theorem sem_inj {ρ ρ' : Role} (h : ρ.sem = ρ'.sem) : ρ = ρ' := Option.some.inj ((roleOf_sem ρ).symm.trans ((congrArg roleOf h).trans (roleOf_sem ρ')))

/-- A role's semaphore on a device. -/
abbrev cell (c : Dev nD) (ρ : Role) : GSem nD τ sig := ((c : Thread nD τ), ρ.sem)

/-- The units a numerator's copy pays, and a pair's. -/
abbrev NO : ℕ := (accO : Memref sig .tc .vmem S16x1024 .f32).view.dmaCredit
abbrev NL : ℕ := (accL : Memref sig .tc .vmem S2x16x16 .f32).view.dmaCredit
theorem NO_pos : 0 < NO := View.dmaCredit_pos _ (by decide)
theorem NL_pos : 0 < NL := View.dmaCredit_pos _ (by decide)
theorem slabO_credit (h : Fin 3) : (slabO h).view.dmaCredit = NO := rfl
theorem slabL_credit (h : Fin 3) : (slabL h).view.dmaCredit = NL := rfl

/-! ## What is held -/

/-- Device `c`'s numerator accumulator at the partial result `a`. -/
def holdO (c : Dev nD) (a : Part F) : sProp 𝕄 :=
  iprop(∃ f, (accO.view.loc (c : Thread nD τ) ↦[accO.view.set]{fullShare} f) ∗ ⌜accO.view.read (Elt F) f = a.o⌝)
/-- Device `c`'s maximum-and-denominator accumulator at the partial result `a`. -/
def holdL (c : Dev nD) (a : Part F) : sProp 𝕄 :=
  iprop(∃ f, (accL.view.loc (c : Thread nD τ) ↦[accL.view.set]{fullShare} f)
    ∗ ⌜row 0 (accL.view.read (Elt F) f) = a.m ∧ row 1 (accL.view.read (Elt F) f) = a.l⌝)
/-- Slab `h` of device `c`'s landing buffers, at some contents. -/
def anyO (h : Fin 3) (c : Dev nD) : sProp 𝕄 := iprop(∃ f, (slabO h).view.loc (c : Thread nD τ) ↦[(slabO h).view.set]{fullShare} f)
def anyL (h : Fin 3) (c : Dev nD) : sProp 𝕄 := iprop(∃ f, (slabL h).view.loc (c : Thread nD τ) ↦[(slabL h).view.set]{fullShare} f)
/-- Slab `h` of device `c`'s landing buffers, the partial result `b` landed. -/
def landedO (h : Fin 3) (c : Dev nD) (b : Part F) : sProp 𝕄 :=
  iprop(∃ f, ((slabO h).view.loc (c : Thread nD τ) ↦[(slabO h).view.set]{fullShare} f) ∗ ⌜(slabO h).view.read (Elt F) f = b.o⌝)
def landedL (h : Fin 3) (c : Dev nD) (b : Part F) : sProp 𝕄 :=
  iprop(∃ f, ((slabL h).view.loc (c : Thread nD τ) ↦[(slabL h).view.set]{fullShare} f)
    ∗ ⌜row 0 ((slabL h).view.read (Elt F) f) = b.m ∧ row 1 ((slabL h).view.read (Elt F) f) = b.l⌝)

variable (e : Dev nD → Part F)

/-- Partner `h`'s unit on device `c`'s barrier: the partner's landing slabs of exchange `h`, their semaphores ready. -/
def barPay (h : Fin 3) (c : Dev nD) : sProp 𝕄 :=
  iprop(anyO (F := F) h (peer h c) ∗ anyL h (peer h c) ∗ reached ER (cell (peer h c) (.recvO h)) 0 ∗ reached ER (cell (peer h c) (.recvL h)) 0)

/-! ## The schedule -/

def dutiesOf : Option Role → Finset (Fin 3)
  | none => ∅
  | some .bar => Finset.univ
  | some _ => {0}
def amountOf' : Option Role → ℕ
  | some (.sendO _) => NO
  | some (.recvO _) => NO
  | some (.sendL _) => NL
  | some (.recvL _) => NL
  | _ => 1
def payOf (c : Dev nD) (d : Fin 3) : Option Role → sProp 𝕄
  | none => iprop(emp)
  | some .bar => barPay d c
  | some (.sendO h) => holdO c (gathered e h.val c)
  | some (.recvO h) => landedO h c (gathered e h.val (peer h c))
  | some (.sendL h) => holdL c (gathered e h.val c)
  | some (.recvL h) => landedL h c (gathered e h.val (peer h c))

def rd : Rounds.Schedule (GSem nD τ sig) (Fin 3) 𝕄 where
  duties g r := if r = 0 ∧ g.1.2 = .tc then dutiesOf (roleOf g.2) else ∅
  unitless _ := False
  amount g _ _ := amountOf' (roleOf g.2)
  payload g _ d := payOf e g.1.1 d (roleOf g.2)
  amount_pos g _ _ _ := by
    rcases roleOf g.2 with _ | ρ
    · exact Nat.one_pos
    · cases ρ
      · exact Nat.one_pos
      · exact NO_pos
      · exact NO_pos
      · exact NL_pos
      · exact NL_pos

theorem storable_held {ℓ : Loc nD τ sig} (I : Finset (Idx ℓ)) (φ : Buf (Elt F) ℓ → Prop) :
    BI.Storable (upEmb : UEmb _ 𝕄) iprop(∃ f : Buf (Elt F) ℓ, (ℓ ↦[I]{fullShare} f) ∗ ⌜φ f⌝) := inferInstance
theorem storable_any {ℓ : Loc nD τ sig} (I : Finset (Idx ℓ)) :
    BI.Storable (upEmb : UEmb _ 𝕄) iprop(∃ f : Buf (Elt F) ℓ, ℓ ↦[I]{fullShare} f) := inferInstance
instance holdO_storable (c : Dev nD) (a : Part F) : BI.Storable (upEmb : UEmb _ 𝕄) (holdO c a) := storable_held _ _
instance holdL_storable (c : Dev nD) (a : Part F) : BI.Storable (upEmb : UEmb _ 𝕄) (holdL c a) := storable_held _ _
instance landedO_storable (h : Fin 3) (c : Dev nD) (b : Part F) : BI.Storable (upEmb : UEmb _ 𝕄) (landedO h c b) := storable_held _ _
instance landedL_storable (h : Fin 3) (c : Dev nD) (b : Part F) : BI.Storable (upEmb : UEmb _ 𝕄) (landedL h c b) := storable_held _ _
instance anyO_storable (h : Fin 3) (c : Dev nD) : BI.Storable (upEmb : UEmb _ 𝕄) (anyO (F := F) h c) := storable_any _
instance anyL_storable (h : Fin 3) (c : Dev nD) : BI.Storable (upEmb : UEmb _ 𝕄) (anyL (F := F) h c) := storable_any _
instance barPay_storable (h : Fin 3) (c : Dev nD) : BI.Storable (upEmb : UEmb _ 𝕄) (barPay (F := F) h c) := by unfold barPay; infer_instance

instance rd_storable (g : GSem nD τ sig) (r : ℕ) (d : Fin 3) : BI.Storable (upEmb : UEmb _ 𝕄) ((rd (F := F) e).payload g r d) := by
  show BI.Storable upEmb (payOf e g.1.1 d (roleOf g.2))
  rcases roleOf g.2 with _ | ρ
  · show BI.Storable upEmb iprop(emp); infer_instance
  · cases ρ with
    | bar => exact barPay_storable _ _
    | sendO h => exact holdO_storable _ _
    | recvO h => exact landedO_storable _ _ _
    | sendL h => exact holdL_storable _ _
    | recvL h => exact landedL_storable _ _ _

theorem duties_bar (c : Dev nD) : (rd (F := F) e).duties (cell c .bar) 0 = Finset.univ := by
  dsimp only [rd]; rw [if_pos ⟨rfl, rfl⟩, roleOf_sem]; rfl
theorem duties_cell (c : Dev nD) (ρ : Role) (hρ : ρ ≠ .bar) : (rd (F := F) e).duties (cell c ρ) 0 = {0} := by
  dsimp only [rd]; rw [if_pos ⟨rfl, rfl⟩, roleOf_sem]; cases ρ <;> first | rfl | exact absurd rfl hρ
theorem duties_later (g : GSem nD τ sig) : ∀ r, 1 ≤ r → (rd (F := F) e).duties g r = ∅ := fun r hr => by
  dsimp only [rd]; exact if_neg fun h => by omega

theorem amount_cell (c : Dev nD) (ρ : Role) (r : ℕ) (d : Fin 3) : (rd (F := F) e).amount (cell c ρ) r d = amountOf' (some ρ) := by
  show amountOf' _ = _; rw [roleOf_sem]
theorem payload_cell (c : Dev nD) (ρ : Role) (r : ℕ) (d : Fin 3) : (rd (F := F) e).payload (cell c ρ) r d = payOf e c d (some ρ) := by
  show payOf e c d _ = _; rw [roleOf_sem]

theorem expect_bar (c : Dev nD) : (rd (F := F) e).expect (cell c .bar) 0 = 3 := by
  unfold Schedule.expect Schedule.amountOf
  rw [duties_bar, Finset.sum_congr rfl fun d _ => amount_cell e c .bar 0 d]; rfl
theorem expect_cell (c : Dev nD) (ρ : Role) (hρ : ρ ≠ .bar) : (rd (F := F) e).expect (cell c ρ) 0 = amountOf' (some ρ) := by
  unfold Schedule.expect Schedule.amountOf; rw [duties_cell e c ρ hρ, Finset.sum_singleton, amount_cell]

theorem rest_bar (c : Dev nD) : bigSep ((rd (F := F) e).duties (cell c .bar) 0 \ ∅) (fun d => (rd (F := F) e).payload (cell c .bar) 0 d)
    = bigSep Finset.univ fun h => barPay (F := F) h c := by
  rw [Finset.sdiff_empty, duties_bar]; exact BI.bigSep_congr fun d _ => payload_cell e c .bar 0 d
theorem rest_cell (c : Dev nD) (ρ : Role) (hρ : ρ ≠ .bar) :
    bigSep ((rd (F := F) e).duties (cell c ρ) 0 \ ∅) (fun d => (rd (F := F) e).payload (cell c ρ) 0 d) = payOf e c 0 (some ρ) := by
  rw [Finset.sdiff_empty, duties_cell e c ρ hρ, bigSep_singleton, payload_cell]

/-! ## Levels -/

def L (g : GSem nD τ sig) : Finset Unit := if g.1.2 = .tc then {()} else ∅
/-- The barrier is waited before the landings of exchange 0, those before exchange 1, and so on; everything else first. -/
def lvRole : Option Role → ℕ
  | some .bar => 1
  | some (.recvO h) => h.val + 2
  | some (.recvL h) => h.val + 2
  | _ => 0
def lv (g : GSem nD τ sig) (_ : Unit) : ℕ := lvRole (roleOf g.2)

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (ρ : Role) (u : Unit) : lv (cell c ρ) u = lvRole (some ρ) := by unfold lv; rw [roleOf_sem]

/-- Everything owed is at a level above `n`. -/
def Above (n : ℕ) (O : CellTallies nD τ sig Unit) : Prop := ∀ g u, 0 < O g u → g.1.2 = .tc ∧ n < lv g u

theorem Above.zero (n : ℕ) : Above n 0 := fun g u h => absurd h (Nat.lt_irrefl 0)
theorem Above.mono {n n' : ℕ} (h : n ≤ n') {O : CellTallies nD τ sig Unit} (hO : Above n' O) : Above n O :=
  fun g u hg => ⟨(hO g u hg).1, lt_of_le_of_lt h (hO g u hg).2⟩
theorem Above.add {n : ℕ} {O : CellTallies nD τ sig Unit} (hO : Above n O) (c : Dev nD) (ρ : Role) (k : ℕ) (h : n < lvRole (some ρ)) :
    Above n (O + tallyAt (cell c ρ) () k) := fun g u hg => by
  by_cases hz : 0 < O g u
  · exact hO g u hz
  · have hg' : 0 < O g u + tallyAt (cell c ρ) () k g u := hg
    rw [tallyAt_apply] at hg'
    by_cases hc : g = cell c ρ ∧ u = ()
    · rw [hc.1]; exact ⟨rfl, by rw [lv_cell]; exact h⟩
    · rw [if_neg hc] at hg'; omega

/-- A wait is allowed while everything owed is at a higher level. -/
theorem mayWait (c : Dev nD) (s : SemLoc sig) {n : ℕ} {O : CellTallies nD τ sig Unit} (hs : lv ((c : Thread nD τ), s) () ≤ n) (hO : Above n O) :
    (levAts L lv : sProp 𝕄) ⊢ MayWait (c : Thread nD τ) s () O :=
  MayOwe.of_cut (L := L) (lev := lv) n (fun p hp => by rw [Finset.mem_singleton.mp hp, L_tc]; exact Finset.mem_singleton_self _)
    (fun g u hg => by
      have := (hO g u hg).1
      unfold L; rw [if_pos this]; exact Finset.mem_singleton_self _)
    (fun p hp => by rw [Finset.mem_singleton.mp hp]; exact hs)
    (fun g u hg => (hO g u hg).2)

theorem mayWait_cell (c : Dev nD) (ρ : Role) {n : ℕ} {O : CellTallies nD τ sig Unit} (hs : lvRole (some ρ) ≤ n) (hO : Above n O) :
    (levAts L lv : sProp 𝕄) ⊢ MayWait (c : Thread nD τ) ρ.sem () O :=
  mayWait c ρ.sem (by show lv (cell c ρ) () ≤ n; rw [lv_cell]; exact hs) hO

end Cert.KernelIdeal.Comb

end
-- ==== Proof.KernelIdeal.Local.lean ====
/-
  What the combining kernel does on its own device: the entry, a merge, the finish. Each leaves the accumulators at the
  partial result it should.
-/
module

public import proofs.«01_k».proof.Proof.KernelIdeal.Sched

@[expose] public section

noncomputable section

namespace Cert.KernelIdeal.Comb

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

abbrev 𝒱₀ : Variants := Variants.none
/-- A device's run of a program, at these definitions. -/
abbrev run (c : Dev nD) {α : Type} (p : Prog (TpuEff nD τ sig (Elt F) Λ₀ .tc) α) (Kt : α → sProp 𝕄) : sProp 𝕄 :=
  wp frame (wpE (defs₀ (F := F)) 𝒱₀ (c : Thread nD τ) none) Set.univ p Kt

/-! ## Loads and stores that need only their own elements -/

/-- A load of part of what is held. -/
theorem ldPart_run (c : Dev nD) {s : Shape} (m : Memref sig .tc .vmem s .f32) (S : Finset (Idx (m.view.loc (c : Thread nD τ)))) (q : PosShare TreeShare)
    (f : m.view.ty.Contents (Elt F)) (r : LoadRect s) (hS : m.view.setOn r.set ⊆ S) (hl) {α : Type}
    (k : (r.shape.Idx → Elt F .f32) → Prog (TpuEff nD τ sig (Elt F) Λ₀ .tc) α) (Kt : α → sProp 𝕄) :
    (m.view.loc (c : Thread nD τ) ↦[S]{q} f : sProp 𝕄)
      ⊢ iprop(((m.view.loc (c : Thread nD τ) ↦[S]{q} f) -∗ run c (k (m.view.readAt (Elt F) r f)) Kt)
          -∗ run c (.op (.load m r hl) k) Kt) :=
  wp_load (defs := defs₀ (F := F)) 𝒱₀ (c : Thread nD τ) none Set.univ hS

/-- A load of a buffer through a full view reads it. -/
theorem ldFull_run (c : Dev nD) {s : Shape} (m : Memref sig .tc .vmem s .f32) (q : PosShare TreeShare) (f : m.view.ty.Contents (Elt F))
    {off : Fin s.rank → ℕ} (inb : ∀ a, off a + s.size a ≤ s.size a) (hl) {α : Type}
    (k : Vec F s .f32 → Prog (TpuEff nD τ sig (Elt F) Λ₀ .tc) α) (Kt : α → sProp 𝕄) :
    (m.view.loc (c : Thread nD τ) ↦[m.view.set]{q} f : sProp 𝕄)
      ⊢ iprop(((m.view.loc (c : Thread nD τ) ↦[m.view.set]{q} f) -∗ run c (k (m.view.read (Elt F) f)) Kt)
          -∗ run c (.op (.load m (Rect.unit (s := s) off s.size inb).toLoadRect hl) k) Kt) :=
  (View.readAt_full m.view f inb) ▸ ldPart_run c m m.view.set q f _ (View.setOn_subset_set _ _) hl k Kt

/-- A store into part of what is held. -/
theorem stPart_run (c : Dev nD) {s : Shape} (m : Memref sig .tc .vmem s .f32) (f : m.view.ty.Contents (Elt F)) (r : Rect s)
    (w : r.shape.Idx → Elt F .f32) (hs : (m.access r).Stores Finset.univ) (hm : (Finset.univ : Finset r.shape.Idx) = Finset.univ ∨ ∀ a, r.stride a = 1) {α : Type}
    (k : PUnit → Prog (TpuEff nD τ sig (Elt F) Λ₀ .tc) α) (Kt : α → sProp 𝕄) :
    (m.view.loc (c : Thread nD τ) ↦[m.view.set]{fullShare} f : sProp 𝕄)
      ⊢ iprop(((m.view.loc (c : Thread nD τ) ↦[m.view.set]{fullShare} (m.access r).write (Elt F) f w Finset.univ) -∗ run c (k ⟨⟩) Kt)
          -∗ run c (.op (.store m r w Finset.univ hs hm) k) Kt) := by
  have hS : (m.access r).setOn Finset.univ ⊆ m.view.set := Finset.Subset.trans (View.setOn_subset_set (m.access r) _) (View.set_slice_subset m.view r)
  exact wp_store (defs := defs₀ (F := F)) (m := m) (r := r) (w := w) (Mk := Finset.univ) (hx := hs) (hm := hm) (k := k) (S := m.view.set) (f := f) (Q := Kt) 𝒱₀ (c : Thread nD τ) none Set.univ hS

/-- A store through a full view leaves its payload. -/
theorem stFull_run (c : Dev nD) {s : Shape} (m : Memref sig .tc .vmem s .f32) (f : m.view.ty.Contents (Elt F))
    {off : Fin s.rank → ℕ} (inb : ∀ a, off a + s.size a ≤ s.size a) (w : Vec F s .f32) (hs hm) {α : Type}
    (k : PUnit → Prog (TpuEff nD τ sig (Elt F) Λ₀ .tc) α) (Kt : α → sProp 𝕄) :
    (m.view.loc (c : Thread nD τ) ↦[m.view.set]{fullShare} f : sProp 𝕄)
      ⊢ iprop((∀ f', ⌜m.view.read (Elt F) f' = w⌝ -∗ (m.view.loc (c : Thread nD τ) ↦[m.view.set]{fullShare} f') -∗ run c (k ⟨⟩) Kt)
          -∗ run c (.op (.store m (Rect.unit (s := s) off s.size inb) w Finset.univ hs hm) k) Kt) := by
  iintro H Hk
  iapply (stPart_run c m f (Rect.unit (s := s) off s.size inb) w hs hm k Kt) $$ H
  iintro H
  ispecialize Hk $$ %_
  ispecialize Hk $$ %(read_store_full m inb f w)
  iapply Hk $$ H

/-! ## The rows of the maximum-and-denominator accumulator -/

/-- The accumulator of maxima and denominators, its rows reading `x` and `y`. -/
def rows (c : Dev nD) (x y : FVec F S16x16 .f32) : sProp 𝕄 :=
  iprop(∃ f, (accL.view.loc (c : Thread nD τ) ↦[accL.view.set]{fullShare} f)
    ∗ ⌜row 0 (accL.view.read (Elt F) f) = x ∧ row 1 (accL.view.read (Elt F) f) = y⌝)

/-- Row `r` of a pair of rows. -/
abbrev pick (r : Fin 2) (x y : FVec F S16x16 .f32) : FVec F S16x16 .f32 := match r with | 0 => x | 1 => y

/-- A row is loaded. -/
theorem ldRow_run (c : Dev nD) (r : Fin 2) (x y : FVec F S16x16 .f32) (hl) {α : Type}
    (k : Vec F S1x16x16 .f32 → Prog (TpuEff nD τ sig (Elt F) Λ₀ .tc) α) (Kt : α → sProp 𝕄) :
    (rows c x y : sProp 𝕄)
      ⊢ iprop((∀ v, ⌜shapeCast S16x16 v shapeCasts_S1x16x16_S16x16 = pick r x y⌝ -∗ rows c x y -∗ run c (k v) Kt)
          -∗ run c (.op (.load accL (Rect.unit (s := S2x16x16) ![r.val, 0, 0] S1x16x16.size (inbA r)).toLoadRect hl) k) Kt) := by
  unfold rows
  iintro ⟨%f, H, %hf⟩ Hk
  iapply (ldPart_run c accL accL.view.set fullShare f _ (View.setOn_subset_set _ _) hl k Kt) $$ H
  iintro H
  ispecialize Hk $$ %_
  ispecialize Hk $$ %((row_load r f).trans (by match r with | 0 => exact hf.1 | 1 => exact hf.2))
  iapply Hk
  iexists f
  isplitl [H]; · iexact H
  ipureintro; exact hf

/-- Row 0 is stored. -/
theorem stRow0_run (c : Dev nD) (x y z : FVec F S16x16 .f32) (w : Vec F S1x16x16 .f32) (hw : w = shapeCast S1x16x16 z shapeCasts_S16x16_S1x16x16)
    (hs hm) {α : Type} (k : PUnit → Prog (TpuEff nD τ sig (Elt F) Λ₀ .tc) α) (Kt : α → sProp 𝕄) :
    (rows c x y : sProp 𝕄)
      ⊢ iprop((rows c z y -∗ run c (k ⟨⟩) Kt)
          -∗ run c (.op (.store accL (Rect.unit (s := S2x16x16) ![(0 : Fin 2).val, 0, 0] S1x16x16.size (inbA 0)) w Finset.univ hs hm) k) Kt) := by
  subst hw
  unfold rows
  iintro ⟨%f, H, %hf⟩ Hk
  iapply (stPart_run c accL f _ _ hs hm k Kt) $$ H
  iintro H
  iapply Hk
  iexists _
  isplitl [H]; · iexact H
  ipureintro; exact ⟨row_store_self 0 f z, (row_store_other 1 0 (by decide) f _).trans hf.2⟩

/-- Row 1 is stored. -/
theorem stRow1_run (c : Dev nD) (x y z : FVec F S16x16 .f32) (w : Vec F S1x16x16 .f32) (hw : w = shapeCast S1x16x16 z shapeCasts_S16x16_S1x16x16)
    (hs hm) {α : Type} (k : PUnit → Prog (TpuEff nD τ sig (Elt F) Λ₀ .tc) α) (Kt : α → sProp 𝕄) :
    (rows c x y : sProp 𝕄)
      ⊢ iprop((rows c x z -∗ run c (k ⟨⟩) Kt)
          -∗ run c (.op (.store accL (Rect.unit (s := S2x16x16) ![(1 : Fin 2).val, 0, 0] S1x16x16.size (inbA 1)) w Finset.univ hs hm) k) Kt) := by
  subst hw
  unfold rows
  iintro ⟨%f, H, %hf⟩ Hk
  iapply (stPart_run c accL f _ _ hs hm k Kt) $$ H
  iintro H
  iapply Hk
  iexists _
  isplitl [H]; · iexact H
  ipureintro; exact ⟨(row_store_other 0 1 (by decide) f _).trans hf.1, row_store_self 1 f z⟩

theorem holdL_rows (c : Dev nD) (a : Part F) : (holdL c a : sProp 𝕄) = rows c a.m a.l := rfl

theorem rows_any (c : Dev nD) : (iprop(∃ f, accL.view.loc (c : Thread nD τ) ↦[accL.view.set]{fullShare} f) : sProp 𝕄) ⊢ iprop(∃ x y, rows c x y) := by
  iintro ⟨%f, H⟩
  iexists row 0 (accL.view.read (Elt F) f)
  iexists row 1 (accL.view.read (Elt F) f)
  unfold rows
  iexists f
  isplitl [H]; · iexact H
  ipureintro; exact ⟨rfl, rfl⟩

/-! ## The entry -/

/-- The entry leaves the accumulators at the partial result read from the three inputs. -/
theorem start_run (c : Dev nD) (m0 : Memref sig .tc .vmem S16x1024 .f32) (m1 m2 : Memref sig .tc .vmem S16x16 .f32) (a : Part F)
    (Kt : PUnit → sProp 𝕄) :
    iprop(owns (c : Thread nD τ) m0 fullShare a.o ∗ owns (c : Thread nD τ) m1 fullShare a.m ∗ owns (c : Thread nD τ) m2 fullShare a.l
        ∗ (∃ f, accO.view.loc (c : Thread nD τ) ↦[accO.view.set]{fullShare} f) ∗ (∃ f, accL.view.loc (c : Thread nD τ) ↦[accL.view.set]{fullShare} f)
        ∗ ((owns (c : Thread nD τ) m0 fullShare a.o ∗ owns (c : Thread nD τ) m1 fullShare a.m ∗ owns (c : Thread nD τ) m2 fullShare a.l
            ∗ holdO c a ∗ holdL c a) -∗ Kt ⟨⟩))
      ⊢ run c (start m0 m1 m2) Kt := by
  unfold start
  simp only [Prog.lift, Prog.bind_op, Prog.bind_ret, Prog.pure_eq_ret]
  iintro ⟨H0, H1, H2, ⟨%fo, Ho⟩, Hl, Hk⟩
  ihave Hl := (rows_any c) $$ Hl
  icases Hl with ⟨%x, %y, Hl⟩
  unfold owns
  icases H0 with ⟨%f0, %h0, H0⟩
  icases H1 with ⟨%f1, %h1, H1⟩
  icases H2 with ⟨%f2, %h2, H2⟩
  iapply (ldFull_run c m0 fullShare f0 inb_S16x1024_S16x1024_0_0 _ _ Kt) $$ H0
  iintro H0
  iapply (ldFull_run c accO fullShare fo inb_S16x1024_S16x1024_0_0 _ _ Kt) $$ Ho
  iintro Ho
  iapply (stFull_run c accO fo inb_S16x1024_S16x1024_0_0 _ _ _ _ Kt) $$ Ho
  iintro %fo' %ho Ho
  iapply (ldFull_run c m1 fullShare f1 inb_S16x16_S16x16_0_0 _ _ Kt) $$ H1
  iintro H1
  iapply (ldRow_run c 0 x y _ _ Kt) $$ Hl
  iintro %_ - Hl
  iapply (stRow0_run c x y a.m _ (by rw [h1]; exact pay3_eq _) _ _ _ Kt) $$ Hl
  iintro Hl
  iapply (ldFull_run c m2 fullShare f2 inb_S16x16_S16x16_0_0 _ _ Kt) $$ H2
  iintro H2
  iapply (ldRow_run c 1 a.m y _ _ Kt) $$ Hl
  iintro %_ - Hl
  iapply (stRow1_run c a.m y a.l _ (by rw [h2]; exact pay4_eq _) _ _ _ Kt) $$ Hl
  iintro Hl
  rw [run, wp_ret]
  imodintro
  iapply Hk
  isplitl [H0]; · iexists f0; isplitr; · ipureintro; exact h0
                  iexact H0
  isplitl [H1]; · iexists f1; isplitr; · ipureintro; exact h1
                  iexact H1
  isplitl [H2]; · iexists f2; isplitr; · ipureintro; exact h2
                  iexact H2
  isplitl [Ho]
  · unfold holdO; iexists fo'; isplitl [Ho]; · iexact Ho
    ipureintro; rw [ho, h0]; exact pay2_eq _
  · iapply (Entails.of_eq (holdL_rows c a).symm) $$ Hl

/-! ## A merge -/

theorem slabO_view (h : Fin 3) :
    (slabO h).view.set = (Rect.unit (s := S3x16x1024) ![h.val, 0, 0] S1x16x1024.size (inbO h)).set.map landO.view.emb :=
  (Memref.set_view_squeeze _ _).trans (View.set_slice landO.view _)
theorem slabL_view (h : Fin 3) :
    (slabL h).view.set = (Rect.unit (s := S3x2x16x16) ![h.val, 0, 0, 0] S1x2x16x16.size (inbL h)).set.map landL.view.emb :=
  (Memref.set_view_squeeze _ _).trans (View.set_slice landL.view _)

theorem slabO_set (h : Fin 3) : landO.view.setOn (Rect.unit (s := S3x16x1024) ![h.val, 0, 0] S1x16x1024.size (inbO h)).toLoadRect.set ⊆ (slabO h).view.set :=
  (slabO_view h).ge

theorem slabL_set (h : Fin 3) (r : Fin 2) :
    landL.view.setOn (Rect.unit (s := S3x2x16x16) ![h.val, r.val, 0, 0] S1x1x16x16.size (inbR h r)).toLoadRect.set ⊆ (slabL h).view.set := by
  refine Finset.Subset.trans (Finset.map_subset_map.mpr fun i hi => ?_) (slabL_view h).ge
  have hi' : i ∈ (Rect.unit (s := S3x2x16x16) ![h.val, r.val, 0, 0] S1x1x16x16.size (inbR h r)).set := hi
  rw [Rect.mem_set_unit] at hi' ⊢
  intro a
  match a with
  | ⟨0, _⟩ => exact hi' 0
  | ⟨1, _⟩ => exact ⟨Nat.zero_le _, Nat.lt_of_lt_of_eq (i 1).isLt (Nat.zero_add _).symm⟩
  | ⟨2, _⟩ => exact hi' 2
  | ⟨3, _⟩ => exact hi' 3

/-- A merge leaves the accumulators at the merged partial result, and the landing slabs free. -/
theorem merge_run (c : Dev nD) (h : Fin 3) (a b : Part F) (Kt : PUnit → sProp 𝕄) :
    iprop(holdO c a ∗ holdL c a ∗ landedO h c b ∗ landedL h c b
        ∗ ((holdO c (a.merge b) ∗ holdL c (a.merge b) ∗ anyO (F := F) h c ∗ anyL (F := F) h c) -∗ Kt ⟨⟩))
      ⊢ run c (merge h mask) Kt := by
  unfold merge
  simp only [Prog.lift, Prog.bind_op, Prog.bind_ret, Prog.pure_eq_ret]
  iintro ⟨Ho, Hl, Hbo, Hbl, Hk⟩
  unfold holdO landedO landedL
  icases Ho with ⟨%fo, Ho, %ho⟩
  icases Hbo with ⟨%go, Hbo, %hbo⟩
  icases Hbl with ⟨%gl, Hbl, %hbl⟩
  ihave Hl := (Entails.of_eq (holdL_rows c a)) $$ Hl
  iapply (ldRow_run c 0 a.m a.l _ _ Kt) $$ Hl
  iintro %v127 %h127 Hl
  iapply (ldRow_run c 1 a.m a.l _ _ Kt) $$ Hl
  iintro %v129 %h129 Hl
  iapply (ldPart_run c landL (slabL h).view.set fullShare gl _ (slabL_set h 0) _ _ Kt) $$ Hbl
  iintro Hbl
  have h131 := (landL_load h 0 gl).trans hbl.1
  generalize landL.view.readAt (Elt F) (Rect.unit (s := S3x2x16x16) ![h.val, (0 : Fin 2).val, 0, 0] S1x1x16x16.size (inbR h 0)).toLoadRect gl = v131 at h131 ⊢
  iapply (ldPart_run c landL (slabL h).view.set fullShare gl _ (slabL_set h 1) _ _ Kt) $$ Hbl
  iintro Hbl
  have h133 := (landL_load h 1 gl).trans hbl.2
  generalize landL.view.readAt (Elt F) (Rect.unit (s := S3x2x16x16) ![h.val, (1 : Fin 2).val, 0, 0] S1x1x16x16.size (inbR h 1)).toLoadRect gl = v133 at h133 ⊢
  iapply (ldFull_run c accO fullShare fo inb_S16x1024_S16x1024_0_0 _ _ Kt) $$ Ho
  iintro Ho
  iapply (ldPart_run c landO (slabO h).view.set fullShare go _ (slabO_set h) _ _ Kt) $$ Hbo
  iintro Hbo
  have h143 := (landO_load h go).trans hbo
  generalize landO.view.readAt (Elt F) (Rect.unit (s := S3x16x1024) ![h.val, 0, 0] S1x16x1024.size (inbO h)).toLoadRect go = v143 at h143 ⊢
  iapply (ldFull_run c accO fullShare fo inb_S16x1024_S16x1024_0_0 _ _ Kt) $$ Ho
  iintro Ho
  iapply (stFull_run c accO fo inb_S16x1024_S16x1024_0_0 _ _ _ _ Kt) $$ Ho
  iintro %fo' %ho' Ho
  iapply (ldRow_run c 0 a.m a.l _ _ Kt) $$ Hl
  iintro %_ - Hl
  iapply (stRow0_run c a.m a.l (a.merge b).m _ (pay15_eq h127 h131) _ _ _ Kt) $$ Hl
  iintro Hl
  iapply (ldRow_run c 1 (a.merge b).m a.l _ _ Kt) $$ Hl
  iintro %_ - Hl
  iapply (stRow1_run c (a.merge b).m a.l (a.merge b).l _ (pay17_eq h127 h129 h131 h133) _ _ _ Kt) $$ Hl
  iintro Hl
  rw [run, wp_ret]
  imodintro
  iapply Hk
  isplitl [Ho]
  · iexists fo'; isplitl [Ho]; · iexact Ho
    ipureintro; rw [ho']; exact pay14_eq h127 h131 ho h143
  isplitl [Hl]; · iapply (Entails.of_eq (holdL_rows c (a.merge b)).symm) $$ Hl
  isplitl [Hbo]; · unfold anyO; iexists go; iexact Hbo
  unfold anyL; iexists gl; iexact Hbl

/-! ## The finish -/

/-- The finish leaves the output at the value of the partial result. -/
theorem finish_run (c : Dev nD) (m3 : Memref sig .tc .vmem S16x1024 .f32) (a : Part F) (x : Vec F S16x1024 .f32) (Kt : PUnit → sProp 𝕄) :
    iprop(holdO c a ∗ holdL c a ∗ owns (c : Thread nD τ) m3 fullShare x
        ∗ ((holdO c a ∗ holdL c a ∗ owns (c : Thread nD τ) m3 fullShare a.value) -∗ Kt ⟨⟩))
      ⊢ run c (finish m3 mask) Kt := by
  unfold finish
  simp only [Prog.lift, Prog.bind_op, Prog.bind_ret, Prog.pure_eq_ret]
  iintro ⟨Ho, Hl, H3, Hk⟩
  unfold holdO owns
  icases Ho with ⟨%fo, Ho, %ho⟩
  icases H3 with ⟨%f3, %h3, H3⟩
  ihave Hl := (Entails.of_eq (holdL_rows c a)) $$ Hl
  iapply (ldFull_run c accO fullShare fo inb_S16x1024_S16x1024_0_0 _ _ Kt) $$ Ho
  iintro Ho
  iapply (ldRow_run c 1 a.m a.l _ _ Kt) $$ Hl
  iintro %v331 %h331 Hl
  iapply (ldFull_run c m3 fullShare f3 inb_S16x1024_S16x1024_0_0 _ _ Kt) $$ H3
  iintro H3
  iapply (stFull_run c m3 f3 inb_S16x1024_S16x1024_0_0 _ _ _ _ Kt) $$ H3
  iintro %f3' %h3' H3
  rw [run, wp_ret]
  imodintro
  iapply Hk
  isplitl [Ho]
  · iexists fo; isplitl [Ho]; · iexact Ho
    ipureintro; exact ho
  isplitl [Hl]; · iapply (Entails.of_eq (holdL_rows c a).symm) $$ Hl
  iexists f3'
  isplitr; · ipureintro; rw [h3']; exact pay1_eq ho h331
  iexact H3

end Cert.KernelIdeal.Comb

end
-- ==== Proof.KernelIdeal.Batch.lean ====
/-
  The first kernel: one batch of a grid point, from its query, keys and values to its partial result, and the four batches of a point.
-/
module

public import proofs.«01_k».proof.Proof.KernelIdeal.Local

@[expose] public section

noncomputable section

namespace Cert.KernelIdeal.Comb

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## What one batch computes -/

/-- A batch's keys or values, head and channel flattened. -/
def flat (k : Vec F S1x16x64x256 .f32) : FVec F S1024x256 .f32 :=
  shapeCast S1024x256 (shapeCast S16x64x256 k shapeCasts_S1x16x64x256_S16x64x256) shapeCasts_S16x64x256_S1024x256

/-- The scores of a batch: per head, the query against every key, times one eighth. -/
def scores (q : Vec F S1x1x1024 .f32) (k : Vec F S1x16x64x256 .f32) : FVec F S16x256 .f32 :=
  mulf (matmul dot_S16x1024_S1024x256_S16x256_1_0_0_1_n_n none
      (mulf (k0_pay7 (F := F)) (broadcastTo S16x1024 (shapeCast S1x1024 q shapeCasts_S1x1x1024_S1x1024) broadcasts_S1x1024_S16x1024))
      (flat k) (constant S16x256 .f32 0x00000000#32))
    (broadcast S16x256 (Scalar.ofBits .f32 0x3E000000#32))

/-- The largest score of each head. -/
def top (s : FVec F S16x256 .f32) : FVec F S16x1 .f32 :=
  shapeCast S16x1 (multiReduction .maximumf [1] S16 s 0xFF800000#32 reduces_S16x256_S16 (.inl rfl) rfl) shapeCasts_S16_S16x1

/-- The weights: the exponentials of the scores less the largest. -/
def weights (s : FVec F S16x256 .f32) : FVec F S16x256 .f32 := exp (subf s (broadcastTo S16x256 (top s) broadcasts_S16x1_S16x256))

/-- The batch's numerator: the weighted sum of the values, each column under its own head. -/
def outO (s : FVec F S16x256 .f32) (v : Vec F S1x16x64x256 .f32) : FVec F S1x1x1024 .f32 :=
  shapeCast S1x1x1024 (shapeCast S1x1024 (multiReduction .add [0] S1024
      (mulf (matmul dot_S16x256_S1024x256_S16x1024_1_1_0_0_n_n none (weights s) (flat v) (constant S16x1024 .f32 0x00000000#32)) (k0_pay7 (F := F)))
      0x00000000#32 reduces_S16x1024_S1024 (.inl rfl) rfl) shapeCasts_S1024_S1x1024) shapeCasts_S1x1024_S1x1x1024
/-- Its maxima. -/
def outM (s : FVec F S16x256 .f32) : FVec F S1x16x1 .f32 := shapeCast S1x16x1 (top s) shapeCasts_S16x1_S1x16x1
/-- Its denominators: the sums of the weights. -/
def outL (s : FVec F S16x256 .f32) : FVec F S1x16x1 .f32 :=
  shapeCast S1x16x1 (shapeCast S16x1 (multiReduction .add [1] S16 (weights s) 0x00000000#32 reduces_S16x256_S16 (.inl rfl) rfl) shapeCasts_S16_S16x1)
    shapeCasts_S16x1_S1x16x1

/-! ## The program of one batch -/

theorem inbV (g : Fin 4) : ∀ d, (![g.val, 0, 0, 0] : Fin 4 → ℕ) d + S1x16x64x256.size d ≤ S4x16x64x256.size d := by revert g; decide
theorem inbQ (g : Fin 4) : ∀ d, (![g.val, 0, 0] : Fin 3 → ℕ) d + S1x1x1024.size d ≤ S4x1x1024.size d := by revert g; decide
theorem inbM (g : Fin 4) : ∀ d, (![g.val, 0, 0] : Fin 3 → ℕ) d + S1x16x1.size d ≤ S4x16x1.size d := by revert g; decide

/-- Batch `g` of a grid point. -/
def batch (a2 : Memref sig .tc .vmem S4x1x1024 .f32) (a3 a4 : Memref sig .tc .vmem S4x16x64x256 .f32) (a5 : Memref sig .tc .vmem S4x1x1024 .f32)
    (a6 a7 : Memref sig .tc .vmem S4x16x1 .f32) (g : Fin 4) : Prog (TpuEff nD τ sig (Elt F) Λ₀ .tc) PUnit := do
  let k : Vec F S1x16x64x256 .f32 ← Prog.lift (.load a3 (Rect.unit (s := S4x16x64x256) ![g.val, 0, 0, 0] S1x16x64x256.size (inbV g)).toLoadRect (View.loadsAt_vmem h_S1x16x64x256))
  let v : Vec F S1x16x64x256 .f32 ← Prog.lift (.load a4 (Rect.unit (s := S4x16x64x256) ![g.val, 0, 0, 0] S1x16x64x256.size (inbV g)).toLoadRect (View.loadsAt_vmem h_S1x16x64x256))
  let q : Vec F S1x1x1024 .f32 ← Prog.lift (.load a2 (Rect.unit (s := S4x1x1024) ![g.val, 0, 0] S1x1x1024.size (inbQ g)).toLoadRect (View.loadsAt_vmem h_S1x1x1024))
  let _ ← Prog.lift (.load a5 (Rect.unit (s := S4x1x1024) ![g.val, 0, 0] S1x1x1024.size (inbQ g)).toLoadRect (View.loadsAt_vmem h_S1x1x1024))
  Prog.lift (.store a5 (Rect.unit (s := S4x1x1024) ![g.val, 0, 0] S1x1x1024.size (inbQ g)) (outO (scores q k) v) Finset.univ (View.stores_vmem_bits_univ h_S1x1x1024 rfl) (.inl rfl))
  let _ ← Prog.lift (.load a6 (Rect.unit (s := S4x16x1) ![g.val, 0, 0] S1x16x1.size (inbM g)).toLoadRect (View.loadsAt_vmem h_S1x16x1))
  Prog.lift (.store a6 (Rect.unit (s := S4x16x1) ![g.val, 0, 0] S1x16x1.size (inbM g)) (outM (scores q k)) Finset.univ (View.stores_vmem_bits_univ h_S1x16x1 rfl) (.inl rfl))
  let _ ← Prog.lift (.load a7 (Rect.unit (s := S4x16x1) ![g.val, 0, 0] S1x16x1.size (inbM g)).toLoadRect (View.loadsAt_vmem h_S1x16x1))
  Prog.lift (.store a7 (Rect.unit (s := S4x16x1) ![g.val, 0, 0] S1x16x1.size (inbM g)) (outL (scores q k)) Finset.univ (View.stores_vmem_bits_univ h_S1x16x1 rfl) (.inl rfl))

set_option maxRecDepth 65536 in
/-- The printed body is its four batches in turn. -/
theorem compute_eq (i : grid0.Coords) (a1 : Memref sig .tc .smem S1 .i32) (h1 : a1.IsWhole) (a2 : Memref sig .tc .vmem S4x1x1024 .f32) (h2 : a2.IsWhole)
    (a3 : Memref sig .tc .vmem S4x16x64x256 .f32) (h3 : a3.IsWhole) (a4 : Memref sig .tc .vmem S4x16x64x256 .f32) (h4 : a4.IsWhole)
    (a5 : Memref sig .tc .vmem S4x1x1024 .f32) (h5 : a5.IsWhole) (a6 : Memref sig .tc .vmem S4x16x1 .f32) (h6 : a6.IsWhole)
    (a7 : Memref sig .tc .vmem S4x16x1 .f32) (h7 : a7.IsWhole) :
    cc0__compute_body (F := F) i a1 h1 a2 h2 a3 h3 a4 h4 a5 h5 a6 h6 a7 h7
      = (batch a2 a3 a4 a5 a6 a7 0 >>= fun _ => batch a2 a3 a4 a5 a6 a7 1 >>= fun _ => batch a2 a3 a4 a5 a6 a7 2 >>= fun _ => batch a2 a3 a4 a5 a6 a7 3) := by
  rfl

/-! ## A point's blocks, batch by batch -/

section Slab
variable {α : Type} {a b : ℕ}

theorem inb4 (g : Fin 4) : ∀ d, (![g.val, 0, 0] : Fin 3 → ℕ) d + (![1, a, b] : Fin 3 → ℕ) d ≤ (⟨3, ![4, a, b]⟩ : Shape).size d := fun d => by
  match d with
  | 0 => have := g.isLt; show g.val + 1 ≤ 4; omega
  | 1 => show 0 + a ≤ a; omega
  | 2 => show 0 + b ≤ b; omega

/-- Batch `g` of a block of four. -/
def slab (g : Fin 4) (X : (⟨3, ![4, a, b]⟩ : Shape).Idx → α) : (⟨3, ![1, a, b]⟩ : Shape).Idx → α :=
  VecWindow.window X ![g.val, 0, 0] ![1, a, b] (inb4 g)
/-- A block of four, from its batches. -/
def stack (P : Fin 4 → (⟨3, ![1, a, b]⟩ : Shape).Idx → α) : (⟨3, ![4, a, b]⟩ : Shape).Idx → α := fun y => P (y 0) (ix3 1 a b 0 (y 1) (y 2))

theorem eq_stack (P : Fin 4 → (⟨3, ![1, a, b]⟩ : Shape).Idx → α) (X : (⟨3, ![4, a, b]⟩ : Shape).Idx → α) (h : ∀ g, slab g X = P g) : X = stack P := by
  funext y
  unfold stack
  refine Eq.trans ?_ (congrFun (h (y 0)) _)
  refine congrArg X (funext fun d => Fin.ext ?_)
  match d with
  | 0 => show (y 0).val = (y 0).val + 1 * 0; omega
  | 1 => show (y 1).val = 0 + 1 * (y 1).val; omega
  | 2 => show (y 2).val = 0 + 1 * (y 2).val; omega

end Slab

/-- Batch `g` of a block of keys or values. -/
def slabV (g : Fin 4) (X : Vec F S4x16x64x256 .f32) : Vec F S1x16x64x256 .f32 := VecWindow.window X ![g.val, 0, 0, 0] S1x16x64x256.size (inbV g)

/-- A result block with its first `n` batches at `P`. -/
def upto (c : Dev nD) {a b : ℕ} (m : Memref sig .tc .vmem ⟨3, ![4, a, b]⟩ .f32) (n : ℕ) (P : Fin 4 → Vec F ⟨3, ![1, a, b]⟩ .f32) : sProp 𝕄 :=
  iprop(∃ f, (m.view.loc (c : Thread nD τ) ↦[m.view.set]{fullShare} f) ∗ ⌜∀ g : Fin 4, g.val < n → slab g (m.view.read (Elt F) f) = P g⌝)

section Upto
variable (c : Dev nD) {a b : ℕ} (m : Memref sig .tc .vmem ⟨3, ![4, a, b]⟩ .f32) (P : Fin 4 → Vec F ⟨3, ![1, a, b]⟩ .f32)

theorem upto_start (X : Vec F ⟨3, ![4, a, b]⟩ .f32) : (owns (c : Thread nD τ) m fullShare X : sProp 𝕄) ⊢ upto c m 0 P := by
  unfold owns upto
  iintro ⟨%f, -, H⟩
  iexists f
  isplitl [H]; · iexact H
  ipureintro; exact fun g hg => absurd hg (Nat.not_lt_zero _)

theorem upto_done : (upto c m 4 P : sProp 𝕄) ⊢ owns (c : Thread nD τ) m fullShare (stack P) := by
  unfold owns upto
  iintro ⟨%f, H, %hf⟩
  iexists f
  isplitr; · ipureintro; exact eq_stack P _ fun g => hf g g.isLt
  iexact H

/-- A load from a result block changes nothing. -/
theorem ldUpto_run (n : ℕ) (r : LoadRect ⟨3, ![4, a, b]⟩) (hl) {α : Type} (k : (r.shape.Idx → Elt F .f32) → Prog (TpuEff nD τ sig (Elt F) Λ₀ .tc) α) (Kt : α → sProp 𝕄) :
    (upto c m n P : sProp 𝕄) ⊢ iprop((∀ v, upto c m n P -∗ run c (k v) Kt) -∗ run c (.op (.load m r hl) k) Kt) := by
  unfold upto
  iintro ⟨%f, H, %hf⟩ Hk
  iapply (ldPart_run c m m.view.set fullShare f r (View.setOn_subset_set _ _) hl k Kt) $$ H
  iintro H
  ispecialize Hk $$ %_
  iapply Hk
  iexists f
  isplitl [H]; · iexact H
  ipureintro; exact hf

/-- The next batch is stored. -/
theorem stUpto_run (g : Fin 4) (w : Vec F ⟨3, ![1, a, b]⟩ .f32) (hw : w = P g) (hs hm) {α : Type} (k : PUnit → Prog (TpuEff nD τ sig (Elt F) Λ₀ .tc) α) (Kt : α → sProp 𝕄) :
    (upto c m g.val P : sProp 𝕄)
      ⊢ iprop((upto c m (g.val + 1) P -∗ run c (k ⟨⟩) Kt)
          -∗ run c (.op (.store m (Rect.unit (s := ⟨3, ![4, a, b]⟩) ![g.val, 0, 0] ![1, a, b] (inb4 g)) w Finset.univ hs hm) k) Kt) := by
  subst hw
  unfold upto
  iintro ⟨%f, H, %hf⟩ Hk
  iapply (stPart_run c m f _ _ hs hm k Kt) $$ H
  iintro H
  iapply Hk
  iexists _
  isplitl [H]; · iexact H
  ipureintro
  intro g' hg'
  unfold slab
  rw [read_store_unit]
  by_cases h : g' = g
  · subst h; exact VecWindow.window_put_same _ _ _ _ _
  · have hlt : g'.val < g.val := by have : g'.val ≠ g.val := fun e => h (Fin.ext e)
                                    omega
    rw [VecWindow.window_put_of_disjoint _ _ _ _ _ _ _ (0 : Fin 3) (by left; show g'.val + 1 ≤ g.val; omega)]
    exact hf g' hlt

end Upto

/-- An input block's batch is loaded. -/
theorem ldQ_run (c : Dev nD) (m : Memref sig .tc .vmem S4x1x1024 .f32) (X : Vec F S4x1x1024 .f32) (g : Fin 4) (hl) {α : Type}
    (k : Vec F S1x1x1024 .f32 → Prog (TpuEff nD τ sig (Elt F) Λ₀ .tc) α) (Kt : α → sProp 𝕄) :
    (owns (c : Thread nD τ) m fullShare X : sProp 𝕄) ⊢ iprop((owns (c : Thread nD τ) m fullShare X -∗ run c (k (slab g X)) Kt)
      -∗ run c (.op (.load m (Rect.unit (s := S4x1x1024) ![g.val, 0, 0] S1x1x1024.size (inbQ g)).toLoadRect hl) k) Kt) := by
  unfold owns
  iintro ⟨%f, %hf, H⟩ Hk
  subst hf
  iapply (ldPart_run c m m.view.set fullShare f _ (View.setOn_subset_set _ _) hl k Kt) $$ H
  iintro H
  iapply Hk
  iexists f
  isplitr; · ipureintro; rfl
  iexact H

theorem ldV_run (c : Dev nD) (m : Memref sig .tc .vmem S4x16x64x256 .f32) (X : Vec F S4x16x64x256 .f32) (g : Fin 4) (hl) {α : Type}
    (k : Vec F S1x16x64x256 .f32 → Prog (TpuEff nD τ sig (Elt F) Λ₀ .tc) α) (Kt : α → sProp 𝕄) :
    (owns (c : Thread nD τ) m fullShare X : sProp 𝕄) ⊢ iprop((owns (c : Thread nD τ) m fullShare X -∗ run c (k (slabV g X)) Kt)
      -∗ run c (.op (.load m (Rect.unit (s := S4x16x64x256) ![g.val, 0, 0, 0] S1x16x64x256.size (inbV g)).toLoadRect hl) k) Kt) := by
  unfold owns
  iintro ⟨%f, %hf, H⟩ Hk
  subst hf
  iapply (ldPart_run c m m.view.set fullShare f _ (View.setOn_subset_set _ _) hl k Kt) $$ H
  iintro H
  iapply Hk
  iexists f
  isplitr; · ipureintro; rfl
  iexact H

/-! ## The run of a point -/

section Point
variable (c : Dev nD) (a2 : Memref sig .tc .vmem S4x1x1024 .f32) (a3 a4 : Memref sig .tc .vmem S4x16x64x256 .f32) (a5 : Memref sig .tc .vmem S4x1x1024 .f32)
  (a6 a7 : Memref sig .tc .vmem S4x16x1 .f32) (Q : Vec F S4x1x1024 .f32) (K V : Vec F S4x16x64x256 .f32)

/-- The scores of batch `g` of a point. -/
def sc (g : Fin 4) : FVec F S16x256 .f32 := scores (slab g Q) (slabV g K)
/-- The three result blocks of a point. -/
def blkO : Vec F S4x1x1024 .f32 := stack fun g => outO (sc Q K g) (slabV g V)
def blkM : Vec F S4x16x1 .f32 := stack fun g => outM (sc Q K g)
def blkL : Vec F S4x16x1 .f32 := stack fun g => outL (sc Q K g)

/-- What a point holds before batch `n`. -/
def before (n : ℕ) : sProp 𝕄 :=
  iprop((owns (c : Thread nD τ) a2 fullShare Q ∗ owns (c : Thread nD τ) a3 fullShare K ∗ owns (c : Thread nD τ) a4 fullShare V)
    ∗ upto c a5 n (fun g => outO (sc Q K g) (slabV g V)) ∗ upto c a6 n (fun g => outM (sc Q K g)) ∗ upto c a7 n (fun g => outL (sc Q K g)))

theorem batch_run (g : Fin 4) (n n' : ℕ) (hn : g.val = n) (hn' : g.val + 1 = n') {α : Type} (k : PUnit → Prog (TpuEff nD τ sig (Elt F) Λ₀ .tc) α) (Kt : α → sProp 𝕄) :
    (before c a2 a3 a4 a5 a6 a7 Q K V n : sProp 𝕄)
      ⊢ iprop((before c a2 a3 a4 a5 a6 a7 Q K V n' -∗ run c (k ⟨⟩) Kt) -∗ run c (batch a2 a3 a4 a5 a6 a7 g >>= k) Kt) := by
  subst hn hn'
  unfold before batch
  iintro ⟨⟨H2, H3, H4⟩, H5, H6, H7⟩ Hk
  iapply (ldV_run c a3 K g _ _ Kt) $$ H3
  iintro H3
  iapply (ldV_run c a4 V g _ _ Kt) $$ H4
  iintro H4
  iapply (ldQ_run c a2 Q g _ _ Kt) $$ H2
  iintro H2
  iapply (ldUpto_run c a5 _ g.val _ _ _ Kt) $$ H5
  iintro %_ H5
  iapply (stUpto_run c a5 (fun g => outO (sc Q K g) (slabV g V)) g _ rfl _ _ _ Kt) $$ H5
  iintro H5
  iapply (ldUpto_run c a6 _ g.val _ _ _ Kt) $$ H6
  iintro %_ H6
  iapply (stUpto_run c a6 (fun g => outM (sc Q K g)) g _ rfl _ _ _ Kt) $$ H6
  iintro H6
  iapply (ldUpto_run c a7 _ g.val _ _ _ Kt) $$ H7
  iintro %_ H7
  iapply (stUpto_run c a7 (fun g => outL (sc Q K g)) g _ rfl _ _ _ Kt) $$ H7
  iintro H7
  iapply Hk
  isplitl [H2 H3 H4]
  · isplitl [H2]; · iexact H2
    isplitl [H3] <;> iassumption
  isplitl [H5]; · iexact H5
  isplitl [H6] <;> iassumption

/-- A whole point: each result block left at its four batches' results. -/
theorem point_run (i : grid0.Coords) (a1 : Memref sig .tc .smem S1 .i32) (h1 : a1.IsWhole) (h2 : a2.IsWhole) (h3 : a3.IsWhole) (h4 : a4.IsWhole)
    (h5 : a5.IsWhole) (h6 : a6.IsWhole) (h7 : a7.IsWhole) (X5 : Vec F S4x1x1024 .f32) (X6 X7 : Vec F S4x16x1 .f32) (Kt : PUnit → sProp 𝕄) :
    iprop(owns (c : Thread nD τ) a2 fullShare Q ∗ owns (c : Thread nD τ) a3 fullShare K ∗ owns (c : Thread nD τ) a4 fullShare V
        ∗ owns (c : Thread nD τ) a5 fullShare X5 ∗ owns (c : Thread nD τ) a6 fullShare X6 ∗ owns (c : Thread nD τ) a7 fullShare X7
        ∗ ((owns (c : Thread nD τ) a2 fullShare Q ∗ owns (c : Thread nD τ) a3 fullShare K ∗ owns (c : Thread nD τ) a4 fullShare V
        ∗ owns (c : Thread nD τ) a5 fullShare (blkO Q K V) ∗ owns (c : Thread nD τ) a6 fullShare (blkM Q K) ∗ owns (c : Thread nD τ) a7 fullShare (blkL Q K)) -∗ Kt ⟨⟩))
      ⊢ run c (cc0__compute_body (F := F) i a1 h1 a2 h2 a3 h3 a4 h4 a5 h5 a6 h6 a7 h7) Kt := by
  rw [compute_eq, show (batch a2 a3 a4 a5 a6 a7 0 >>= fun _ => batch a2 a3 a4 a5 a6 a7 1 >>= fun _ => batch a2 a3 a4 a5 a6 a7 2 >>= fun _ => batch a2 a3 a4 a5 a6 a7 3)
    = (batch (F := F) a2 a3 a4 a5 a6 a7 0 >>= fun _ => batch a2 a3 a4 a5 a6 a7 1 >>= fun _ => batch a2 a3 a4 a5 a6 a7 2 >>= fun _ => batch a2 a3 a4 a5 a6 a7 3 >>= fun u => .ret u) from rfl]
  iintro ⟨H2, H3, H4, H5, H6, H7, Hk⟩
  iapply (batch_run c a2 a3 a4 a5 a6 a7 Q K V 0 0 1 rfl rfl _ Kt) $$ [H2 H3 H4 H5 H6 H7]
  · unfold before
    isplitl [H2 H3 H4]
    · isplitl [H2]; · iexact H2
      isplitl [H3] <;> iassumption
    isplitl [H5]; · iapply (upto_start c a5 _ X5); iexact H5
    isplitl [H6]; · iapply (upto_start c a6 _ X6); iexact H6
    iapply (upto_start c a7 _ X7); iexact H7
  iintro H
  iapply (batch_run c a2 a3 a4 a5 a6 a7 Q K V 1 1 2 rfl rfl _ Kt) $$ H
  iintro H
  iapply (batch_run c a2 a3 a4 a5 a6 a7 Q K V 2 2 3 rfl rfl _ Kt) $$ H
  iintro H
  iapply (batch_run c a2 a3 a4 a5 a6 a7 Q K V 3 3 4 rfl rfl _ Kt) $$ H
  iintro H
  rw [run, wp_ret]
  imodintro
  iapply Hk
  unfold before
  icases H with ⟨⟨H2, H3, H4⟩, H5, H6, H7⟩
  isplitl [H2]; · iexact H2
  isplitl [H3]; · iexact H3
  isplitl [H4]; · iexact H4
  isplitl [H5]; · iapply (upto_done c a5); iexact H5
  isplitl [H6]; · iapply (upto_done c a6); iexact H6
  iapply (upto_done c a7); iexact H7

end Point

end Cert.KernelIdeal.Comb

end
-- ==== Proof.KernelIdeal.Exchange.lean ====
/-
  The barrier and one exchange, on one device: what it must hold, and what it is left with.
-/
module

public import proofs.«01_k».proof.Proof.KernelIdeal.Local

@[expose] public section

noncomputable section

namespace Cert.KernelIdeal.Comb

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] (e : Dev nD → Part F)

local notation "𝕄" => MT nD τ sig Unit (Elt F) ℕ UU ℕ

theorem bigSep_fin3 (P : Fin 3 → sProp 𝕄) : bigSep Finset.univ P = iprop(P 0 ∗ P 1 ∗ P 2) := by
  rw [show (Finset.univ : Finset (Fin 3)) = insert 0 (insert 1 {2}) by decide, bigSep_insert (by decide), bigSep_insert (by decide), bigSep_singleton]
  rfl

/-- What every device may know: each semaphore of the protocol follows the schedule, and the barriers are open. -/
def known (K : GSem nD τ sig → ℕ) : sProp 𝕄 :=
  iprop((∀ (c : Dev nD) (ρ : Role), cellInv ER (rd e) (K (cell c ρ)) (cell c ρ)) ∗ (∀ (c : Dev nD), reached ER (cell c .bar) 0))

instance known_persistent (K : GSem nD τ sig → ℕ) : Persistent (known e K) := by unfold known; infer_instance

theorem known_inv (K : GSem nD τ sig → ℕ) (c : Dev nD) (ρ : Role) : known e K ⊢ cellInv ER (rd e) (K (cell c ρ)) (cell c ρ) := by
  unfold known; iintro ⟨H, -⟩; ispecialize H $$ %c; ispecialize H $$ %ρ; iexact H
theorem known_bar (K : GSem nD τ sig → ℕ) (c : Dev nD) : known e K ⊢ reached ER (cell c .bar) 0 := by
  unfold known; iintro ⟨-, H⟩; ispecialize H $$ %c; iexact H

/-- Device `c`'s four semaphores of exchange `h`, at their first round. -/
def opened (h : Fin 3) (c : Dev nD) : sProp 𝕄 :=
  iprop(atPos ER (cell c (.sendO h)) 0 ∅ 0 ∗ atPos ER (cell c (.recvO h)) 0 ∅ 0 ∗ atPos ER (cell c (.sendL h)) 0 ∅ 0 ∗ atPos ER (cell c (.recvL h)) 0 ∅ 0
    ∗ reached ER (cell c (.sendO h)) 0 ∗ reached ER (cell c (.sendL h)) 0)
/-- Its rights to pay the exchange's sends and landings, and what pays its own two waits for landings. -/
def toks (h : Fin 3) (c : Dev nD) : sProp 𝕄 :=
  iprop(dutyTok ER (cell c (.sendO h)) 0 0 ∗ dutyTok ER (cell c (.sendL h)) 0 0 ∗ dutyTok ER (cell (peer h c) (.recvO h)) 0 0 ∗ dutyTok ER (cell (peer h c) (.recvL h)) 0 0
    ∗ cred (tallyAt (cell c (.recvO h)) () NO) ∗ cred (tallyAt (cell c (.recvL h)) () NL))
/-- The four counters at zero. -/
def shut (h : Fin 3) (c : Dev nD) : sProp 𝕄 :=
  iprop(semVal (cell c (.sendO h)) 0 ∗ semVal (cell c (.recvO h)) 0 ∗ semVal (cell c (.sendL h)) 0 ∗ semVal (cell c (.recvL h)) 0)
/-- What the exchange pays the partner. -/
def dueL (h : Fin 3) (c : Dev nD) : CellTallies nD τ sig Unit := tallyAt (cell (peer h c) (.recvL h)) () NL
def dueO (h : Fin 3) (c : Dev nD) : CellTallies nD τ sig Unit := tallyAt (cell (peer h c) (.recvO h)) () NO

/-- What lands is what the partner had gathered. -/
theorem landedO_intro (h : Fin 3) (c : Dev nD) (f : (slabO h).view.ty.Contents (Elt F)) (b : Part F) (x : Vec F S16x1024 .f32) (hx : x = b.o) :
    ((slabO h).view.loc (c : Thread nD τ) ↦[(slabO h).view.set]{fullShare} ((slabO h).view.write (Elt F) f x Finset.univ) : sProp 𝕄)
      ⊢ landedO h c b := by
  unfold landedO
  iintro H
  iexists _
  isplitl [H]; · iexact H
  ipureintro; rw [View.read_write_univ]; exact hx
theorem landedL_intro (h : Fin 3) (c : Dev nD) (f : (slabL h).view.ty.Contents (Elt F)) (b : Part F) (x : Vec F S2x16x16 .f32)
    (hx : row 0 x = b.m ∧ row 1 x = b.l) :
    ((slabL h).view.loc (c : Thread nD τ) ↦[(slabL h).view.set]{fullShare} ((slabL h).view.write (Elt F) f x Finset.univ) : sProp 𝕄)
      ⊢ landedL h c b := by
  unfold landedL
  iintro H
  iexists _
  isplitl [H]; · iexact H
  ipureintro; rw [View.read_write_univ]; exact hx

/-- A wait for a semaphore's one payment: its payload, and its counter at zero. -/
theorem wait_run (K : GSem nD τ sig → ℕ) (c : Dev nD) (ρ : Role) (hρ : ρ ≠ .bar) (O : CellTallies nD τ sig Unit) {n : ℕ} (hn : lvRole (some ρ) ≤ n) (hO : Above n O)
    (W : Waits sig Unit) (w : TpuEff nD τ sig (Elt F) Λ₀ .tc PUnit) (N : ℕ) (hN : N = amountOf' (some ρ))
    (hw : ∀ Kt : PUnit → sProp 𝕄, wpE' (defs₀ (F := F)) 𝒱₀ (c : Thread nD τ) none PendingWaitsCtx.empty Set.univ w Kt = waitSpec (c : Thread nD τ) Set.univ ρ.sem N Kt)
    (P : sProp 𝕄) (hP : payOf e c 0 (some ρ) = P)
    {α : Type} (k : PUnit → Prog (TpuEff nD τ sig (Elt F) Λ₀ .tc) α) (Kt : α → sProp 𝕄) :
    iprop(known e K ∗ levAts L lv ∗ cred (tallyAt (cell c ρ) () N) ∗ owes (c : Thread nD τ) O W ∗ atPos ER (cell c ρ) 0 ∅ 0)
      ⊢ iprop((∀ W', (owes (c : Thread nD τ) O W' ∗ semVal (cell c ρ) 0 ∗ P) -∗ run c (k ⟨⟩) Kt) -∗ run c (.op w k) Kt) := by
  subst hP
  iintro ⟨#HK, #Hlev, Hc, HO, Ha⟩ Hk
  ihave Hi := (known_inv e K c ρ) $$ HK
  ihave Hw := (mayWait_cell c ρ hn hO) $$ Hlev
  iapply (Rounds.wp_wait_rest_token 𝒱₀ ER (rd e) (c : Thread nD τ) none (κ := K (cell c ρ)) (k' := N) hw
      (Set.mem_univ _) () (O := O) (W := W) (R := 0) (m := 0) (T := ∅) ((Nat.zero_add _).trans (hN.trans (expect_cell e c ρ hρ).symm)))
      $$ [Hi Hc HO Hw Ha]
  · isplitl [Hi]; · iexact Hi
    isplitl [Hc]; · iexact Hc
    isplitl [HO]; · iexact HO
    isplitl [Hw]; · iexact Hw
    iexact Ha
  rw [rest_cell e c ρ hρ]
  iintro ⟨HO, Ha, -, Hp⟩
  ihave Hi := (known_inv e K c ρ) $$ HK
  imod (Rounds.cell_close ER (rd e) (Set.mem_univ (K (cell c ρ))) id (duties_later e (cell c ρ))) $$ [Hi Ha] with Hv
  · isplitl [Hi]; · iexact Hi
    iexact Ha
  iapply Hk $$ %_
  isplitl [HO]; · iexact HO
  isplitl [Hv]; · iexact Hv
  iexact Hp

set_option maxHeartbeats 1000000 in
/-- One exchange: the accumulators sent to the partner and back in hand, the partner's landed, the four counters at zero. -/
theorem swap_run (K : GSem nD τ sig → ℕ) (h : Fin 3) (c : Dev nD) (O : CellTallies nD τ sig Unit) (hO : Above (h.val + 2) O) (W : Waits sig Unit)
    (Kt : PUnit → sProp 𝕄) :
    iprop(known e K ∗ levAts L lv ∗ opened h c ∗ toks h c ∗ holdO c (gathered e h.val c) ∗ holdL c (gathered e h.val c)
        ∗ barPay h c ∗ owes (c : Thread nD τ) (O + dueL h c + dueO h c) W
        ∗ (∀ W', (holdO c (gathered e h.val c) ∗ holdL c (gathered e h.val c) ∗ landedO h c (gathered e h.val (peer h c)) ∗ landedL h c (gathered e h.val (peer h c))
            ∗ shut h c ∗ owes (c : Thread nD τ) O W') -∗ Kt ⟨⟩))
      ⊢ run c (swap h (peer h c) (peer h c)) Kt := by
  unfold swap
  simp only [Prog.lift, Prog.bind_op, Prog.bind_ret, Prog.pure_eq_ret]
  unfold opened toks barPay anyO anyL holdO holdL dueO dueL
  iintro ⟨#HK, #Hlev, ⟨Haso, Haro, Hasl, Harl, Hrso, Hrsl⟩, ⟨Hdso, Hdsl, Hdro, Hdrl, Hcro, Hcrl⟩, ⟨%fo, Ho, %ho⟩, ⟨%fl, Hl, %hl⟩,
    ⟨⟨%po, Hpo⟩, ⟨%pl, Hpl⟩, Hrro, Hrrl⟩, HO, Hk⟩
  -- the numerator
  ihave Hi1 := (known_inv e K c (.sendO h)) $$ HK
  ihave Hi2 := (known_inv e K (peer h c) (.recvO h)) $$ HK
  iapply (Rounds.wp_send_pointsTo 𝒱₀ ER (rd e) (c : Thread nD τ) none (c' := Dev.tc (peer h c)) (src := accO) (dst := slabO h)
      (sS := .dma (sendO h)) (sem := .dma (recvO h)) (q := fullShare) (fs := fo) (κ₁ := K (cell c (.sendO h))) (κ₂ := K (cell (peer h c) (.recvO h)))
      (r₁ := 0) (r₂ := 0) (d₁ := 0) (d₂ := 0) (fd := po)
      (by rw [duties_cell e c (.sendO h) (by simp)]; exact Finset.mem_singleton_self _)
      (by rw [duties_cell e (peer h c) (.recvO h) (by simp)]; exact Finset.mem_singleton_self _)
      () () NO rfl (amount_cell e c (.sendO h) 0 0) (amount_cell e (peer h c) (.recvO h) 0 0)
      (O + tallyAt (cell (peer h c) (.recvL h)) () NL) rfl
      (by rw [payload_cell e c (.sendO h)]; show _ ⊢ holdO c _; unfold holdO; iintro H; iexists fo; isplitl [H]; · iexact H
          ipureintro; exact ho)
      (by rw [payload_cell e (peer h c) (.recvO h)]
          exact landedO_intro h (peer h c) po _ _ (by rw [peer_peer]; exact ho)))
      $$ [Hi1 Hi2 Ho Hpo HO Hdso Hrso Hdro Hrro]
  · isplitl [Hi1]; · iexact Hi1
    isplitl [Hi2]; · iexact Hi2
    isplitl [Ho]; · iexact Ho
    isplitl [Hpo]; · iexact Hpo
    isplitl [HO]; · iexact HO
    isplitl [Hdso]; · iexact Hdso
    isplitl [Hrso]; · iexact Hrso
    isplitl [Hdro]; · iexact Hdro
    iexact Hrro
  iintro ⟨Hcso, HO⟩
  -- the maximum and denominator
  ihave Hi1 := (known_inv e K c (.sendL h)) $$ HK
  ihave Hi2 := (known_inv e K (peer h c) (.recvL h)) $$ HK
  iapply (Rounds.wp_send_pointsTo 𝒱₀ ER (rd e) (c : Thread nD τ) none (c' := Dev.tc (peer h c)) (src := accL) (dst := slabL h)
      (sS := .dma (sendL h)) (sem := .dma (recvL h)) (q := fullShare) (fs := fl) (κ₁ := K (cell c (.sendL h))) (κ₂ := K (cell (peer h c) (.recvL h)))
      (r₁ := 0) (r₂ := 0) (d₁ := 0) (d₂ := 0) (fd := pl)
      (by rw [duties_cell e c (.sendL h) (by simp)]; exact Finset.mem_singleton_self _)
      (by rw [duties_cell e (peer h c) (.recvL h) (by simp)]; exact Finset.mem_singleton_self _)
      () () NL rfl (amount_cell e c (.sendL h) 0 0) (amount_cell e (peer h c) (.recvL h) 0 0)
      O rfl
      (by rw [payload_cell e c (.sendL h)]; show _ ⊢ holdL c _; unfold holdL; iintro H; iexists fl; isplitl [H]; · iexact H
          ipureintro; exact hl)
      (by rw [payload_cell e (peer h c) (.recvL h)]
          exact landedL_intro h (peer h c) pl _ _ (by rw [peer_peer]; exact hl)))
      $$ [Hi1 Hi2 Hl Hpl HO Hdsl Hrsl Hdrl Hrrl]
  · isplitl [Hi1]; · iexact Hi1
    isplitl [Hi2]; · iexact Hi2
    isplitl [Hl]; · iexact Hl
    isplitl [Hpl]; · iexact Hpl
    isplitl [HO]; · iexact HO
    isplitl [Hdsl]; · iexact Hdsl
    isplitl [Hrsl]; · iexact Hrsl
    isplitl [Hdrl]; · iexact Hdrl
    iexact Hrrl
  iintro ⟨Hcsl, HO⟩
  -- the four waits
  iapply (wait_run e K c (.sendO h) (by simp) O (n := h.val + 2) (Nat.zero_le _) hO _ _ NO rfl (wpE_waitDma2_eq 𝒱₀ (c : Thread nD τ) none Set.univ) (holdO c (gathered e h.val c)) rfl _ Kt)
      $$ [Hcso HO Haso]
  · isplitr; · iexact HK
    isplitr; · iexact Hlev
    isplitl [Hcso]; · iexact Hcso
    isplitl [HO]; · iexact HO
    iexact Haso
  iintro %W1 ⟨HO, Hvso, Ho⟩
  iapply (wait_run e K c (.recvO h) (by simp) O (n := h.val + 2) (le_refl _) hO _ _ (slabO h).view.dmaCredit rfl (wpE_waitDma2_eq 𝒱₀ (c : Thread nD τ) none Set.univ) (landedO h c (gathered e h.val (peer h c))) rfl _ Kt)
      $$ [Hcro HO Haro]
  · isplitr; · iexact HK
    isplitr; · iexact Hlev
    isplitl [Hcro]; · iexact Hcro
    isplitl [HO]; · iexact HO
    iexact Haro
  iintro %W2 ⟨HO, Hvro, Hlo⟩
  iapply (wait_run e K c (.sendL h) (by simp) O (n := h.val + 2) (Nat.zero_le _) hO _ _ NL rfl (wpE_waitDma2_eq 𝒱₀ (c : Thread nD τ) none Set.univ) (holdL c (gathered e h.val c)) rfl _ Kt)
      $$ [Hcsl HO Hasl]
  · isplitr; · iexact HK
    isplitr; · iexact Hlev
    isplitl [Hcsl]; · iexact Hcsl
    isplitl [HO]; · iexact HO
    iexact Hasl
  iintro %W3 ⟨HO, Hvsl, Hl⟩
  iapply (wait_run e K c (.recvL h) (by simp) O (n := h.val + 2) (le_refl _) hO _ _ (slabL h).view.dmaCredit rfl (wpE_waitDma2_eq 𝒱₀ (c : Thread nD τ) none Set.univ) (landedL h c (gathered e h.val (peer h c))) rfl _ Kt)
      $$ [Hcrl HO Harl]
  · isplitr; · iexact HK
    isplitr; · iexact Hlev
    isplitl [Hcrl]; · iexact Hcrl
    isplitl [HO]; · iexact HO
    iexact Harl
  iintro %W4 ⟨HO, Hvrl, Hll⟩
  rw [run, wp_ret]
  imodintro
  iapply Hk $$ %_
  isplitl [Ho]; · iapply (show (holdO c (gathered e h.val c) : sProp 𝕄) ⊢ _ by unfold holdO; exact .rfl) $$ Ho
  isplitl [Hl]; · iapply (show (holdL c (gathered e h.val c) : sProp 𝕄) ⊢ _ by unfold holdL; exact .rfl) $$ Hl
  isplitl [Hlo]; · iexact Hlo
  isplitl [Hll]; · iexact Hll
  isplitl [Hvso Hvro Hvsl Hvrl]
  · unfold shut
    isplitl [Hvso]; · iexact Hvso
    isplitl [Hvro]; · iexact Hvro
    isplitl [Hvsl]; · iexact Hvsl
    iexact Hvrl
  iexact HO

/-! ## The barrier -/

/-- What device `c` hands its partner of exchange `h` at the barrier: its landing slabs, their semaphores ready. -/
def lend (h : Fin 3) (c : Dev nD) : sProp 𝕄 :=
  iprop(anyO (F := F) h c ∗ anyL h c ∗ reached ER (cell c (.recvO h)) 0 ∗ reached ER (cell c (.recvL h)) 0)

theorem barPay_peer (h : Fin 3) (c : Dev nD) : (barPay h (peer h c) : sProp 𝕄) = lend h c := by unfold barPay lend; rw [peer_peer]

/-- One unit to a partner's barrier. -/
theorem signal_run (K : GSem nD τ sig → ℕ) (h : Fin 3) (c : Dev nD) (O : CellTallies nD τ sig Unit) (W : Waits sig Unit)
    {α : Type} (k : PUnit → Prog (TpuEff nD τ sig (Elt F) Λ₀ .tc) α) (Kt : α → sProp 𝕄) :
    iprop(known e K ∗ dutyTok ER (cell (peer h c) .bar) 0 h ∗ lend h c ∗ owes (c : Thread nD τ) (O + tallyAt (cell (peer h c) .bar) () 1) W)
      ⊢ iprop((owes (c : Thread nD τ) O W -∗ run c (k ⟨⟩) Kt) -∗ run c (.op (.semSignal (Dev.tc (peer h c)) barS 1) k) Kt) := by
  iintro ⟨#HK, Hd, Hp, HO⟩ Hk
  ihave Hi := (known_inv e K (peer h c) .bar) $$ HK
  ihave Hr := (known_bar e K (peer h c)) $$ HK
  ihave Hp := (Entails.of_eq ((barPay_peer (F := F) h c).symm.trans (payload_cell e (peer h c) .bar 0 h).symm)) $$ Hp
  iapply (Rounds.wp_signal 𝒱₀ ER (rd e) (c : Thread nD τ) none (dst := Dev.tc (peer h c)) (sem := barS) (r := 0) (d := h) (κ := K (cell (peer h c) .bar))
      (by rw [duties_bar]; exact Finset.mem_univ _) (amount_cell e (peer h c) .bar 0 h) () O rfl) $$ [Hi Hd Hp Hr HO]
  · isplitl [Hi]; · iexact Hi
    isplitl [HO]; · iexact HO
    isplitl [Hd]; · iexact Hd
    isplitl [Hp]; · iexact Hp
    iexact Hr
  iexact Hk

/-- The unit a signal pays. -/
def dueB (h : Fin 3) (c : Dev nD) : CellTallies nD τ sig Unit := tallyAt (cell (peer h c) .bar) () 1

/-- The barrier: every device's landing slabs go to its partners, and its partners' come to it. -/
theorem barrier_run (K : GSem nD τ sig → ℕ) (c : Dev nD) (O : CellTallies nD τ sig Unit) (hO : Above 1 O) (W : Waits sig Unit)
    (Kt : PUnit → sProp 𝕄) :
    iprop(known e K ∗ levAts L lv ∗ atPos ER (cell c .bar) 0 ∅ 0 ∗ cred (tallyAt (cell c .bar) () 3)
        ∗ (dutyTok ER (cell (peer 0 c) .bar) 0 0 ∗ dutyTok ER (cell (peer 1 c) .bar) 0 1 ∗ dutyTok ER (cell (peer 2 c) .bar) 0 2)
        ∗ (lend 0 c ∗ lend 1 c ∗ lend 2 c) ∗ owes (c : Thread nD τ) (O + dueB 2 c + dueB 1 c + dueB 0 c) W
        ∗ (∀ W', ((barPay 0 c ∗ barPay 1 c ∗ barPay 2 c) ∗ semVal (cell c .bar) 0 ∗ owes (c : Thread nD τ) O W') -∗ Kt ⟨⟩))
      ⊢ run c (barrier (peer 0 c) (peer 1 c) (peer 2 c)) Kt := by
  unfold barrier
  simp only [semSignalWord, semWaitWord, Prog.lift, Prog.bind_op, Prog.bind_ret, Prog.pure_eq_ret]
  unfold dueB
  iintro ⟨#HK, #Hlev, Ha, Hc, ⟨Hd0, Hd1, Hd2⟩, ⟨Hp0, Hp1, Hp2⟩, HO, Hk⟩
  iapply (signal_run e K 0 c _ W _ Kt) $$ [Hd0 Hp0 HO]
  · isplitr; · iexact HK
    isplitl [Hd0]; · iexact Hd0
    isplitl [Hp0]; · iexact Hp0
    iexact HO
  iintro HO
  iapply (signal_run e K 1 c _ W _ Kt) $$ [Hd1 Hp1 HO]
  · isplitr; · iexact HK
    isplitl [Hd1]; · iexact Hd1
    isplitl [Hp1]; · iexact Hp1
    iexact HO
  iintro HO
  iapply (signal_run e K 2 c _ W _ Kt) $$ [Hd2 Hp2 HO]
  · isplitr; · iexact HK
    isplitl [Hd2]; · iexact Hd2
    isplitl [Hp2]; · iexact Hp2
    iexact HO
  iintro HO
  ihave Hi := (known_inv e K c .bar) $$ HK
  ihave Hw := (mayWait_cell c .bar (n := 1) (le_refl _) hO) $$ Hlev
  iapply (Rounds.wp_wait_rest_token 𝒱₀ ER (rd e) (c : Thread nD τ) none (κ := K (cell c .bar)) (k' := 3) (wpE_semWait_eq 𝒱₀ (c : Thread nD τ) none Set.univ)
      (Set.mem_univ _) () (O := O) (W := W) (R := 0) (m := 0) (T := ∅) (expect_bar e c).symm)
      $$ [Hi Hc HO Hw Ha]
  · isplitl [Hi]; · iexact Hi
    isplitl [Hc]; · iexact Hc
    isplitl [HO]; · iexact HO
    isplitl [Hw]; · iexact Hw
    iexact Ha
  rw [rest_bar e c]
  iintro ⟨HO, Ha, -, Hp⟩
  ihave Hi := (known_inv e K c .bar) $$ HK
  imod (Rounds.cell_close ER (rd e) (Set.mem_univ (K (cell c .bar))) id (duties_later e (cell c .bar))) $$ [Hi Ha] with Hv
  · isplitl [Hi]; · iexact Hi
    iexact Ha
  rw [wp_ret]
  imodintro
  iapply Hk $$ %_
  isplitl [Hp]
  · iapply (Entails.of_eq (bigSep_fin3 fun h => barPay (F := F) h c)) $$ Hp
  isplitl [Hv]; · iexact Hv
  iexact HO

end Cert.KernelIdeal.Comb

end
-- ==== Proof.KernelIdeal.Comb.lean ====
/-
  The combining kernel's whole run on one device: from its partial result and the protocol's rights to the output, the counters
  back at zero and nothing owed.
-/
module

public import proofs.«01_k».proof.Proof.KernelIdeal.Exchange
public import Idealize.ShloMosaic.Lib.Ring

@[expose] public section

noncomputable section

namespace Cert.KernelIdeal.Comb

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] (e : Dev nD → Part F)

local notation "𝕄" => MT nD τ sig Unit (Elt F) ℕ UU ℕ

theorem run_bind (c : Dev nD) {α β : Type} (p : Prog (TpuEff nD τ sig (Elt F) Λ₀ .tc) α) (k : α → Prog (TpuEff nD τ sig (Elt F) Λ₀ .tc) β) (Kt : β → sProp 𝕄) :
    run c (p >>= k) Kt = run c p (fun a => run c (k a) Kt) := wp_bind _ _ _ _ _ _

/-- An exchange and its merge: what the two partners had gathered, gathered by both. -/
theorem step_run (K : GSem nD τ sig → ℕ) (h : Fin 3) (c : Dev nD) (O : CellTallies nD τ sig Unit) (hO : Above (h.val + 2) O) (W : Waits sig Unit)
    (k : Prog (TpuEff nD τ sig (Elt F) Λ₀ .tc) PUnit) (Kt : PUnit → sProp 𝕄) :
    iprop(known e K ∗ levAts L lv ∗ (opened h c ∗ toks h c) ∗ holdO c (gathered e h.val c) ∗ holdL c (gathered e h.val c)
        ∗ barPay h c ∗ owes (c : Thread nD τ) (O + dueL h c + dueO h c) W
        ∗ (∀ W', (holdO c (gathered e (h.val + 1) c) ∗ holdL c (gathered e (h.val + 1) c) ∗ (anyO (F := F) h c ∗ anyL (F := F) h c)
            ∗ shut h c ∗ owes (c : Thread nD τ) O W') -∗ run c k Kt))
      ⊢ run c (swap h (peer h c) (peer h c) >>= fun _ => merge h mask >>= fun _ => k) Kt := by
  rw [run_bind]
  iintro ⟨#HK, #Hlev, ⟨Hop, Htk⟩, Ho, Hl, Hp, HO, Hk⟩
  iapply (swap_run e K h c O hO W _)
  isplitr; · iexact HK
  isplitr; · iexact Hlev
  isplitl [Hop]; · iexact Hop
  isplitl [Htk]; · iexact Htk
  isplitl [Ho]; · iexact Ho
  isplitl [Hl]; · iexact Hl
  isplitl [Hp]; · iexact Hp
  isplitl [HO]; · iexact HO
  iintro %W' ⟨Ho, Hl, Hlo, Hll, Hsh, HO⟩
  rw [run_bind]
  iapply (merge_run c h (gathered e h.val c) (gathered e h.val (peer h c)) _)
  isplitl [Ho]; · iexact Ho
  isplitl [Hl]; · iexact Hl
  isplitl [Hlo]; · iexact Hlo
  isplitl [Hll]; · iexact Hll
  rw [← gathered_succ e h c]
  iintro ⟨Ho, Hl, Hao, Hal⟩
  iapply Hk $$ %W'
  isplitl [Ho]; · iexact Ho
  isplitl [Hl]; · iexact Hl
  isplitl [Hao Hal]
  · isplitl [Hao] <;> iassumption
  isplitl [Hsh]; · iexact Hsh
  iexact HO

/-! ## What a device owes at launch -/

/-- Everything a device pays its partners: the landings of the three exchanges, and the three barrier units. -/
def owedAll (c : Dev nD) : CellTallies nD τ sig Unit :=
  0 + dueL 2 c + dueO 2 c + dueL 1 c + dueO 1 c + dueL 0 c + dueO 0 c + dueB 2 c + dueB 1 c + dueB 0 c

theorem above2 (c : Dev nD) : Above ((1 : Fin 3).val + 2) ((0 : CellTallies nD τ sig Unit) + dueL 2 c + dueO 2 c) :=
  ((Above.zero _).add _ (.recvL 2) _ (by decide)).add _ (.recvO 2) _ (by decide)
theorem above1 (c : Dev nD) : Above ((0 : Fin 3).val + 2) ((0 : CellTallies nD τ sig Unit) + dueL 2 c + dueO 2 c + dueL 1 c + dueO 1 c) :=
  (((above2 c).mono (by decide)).add _ (.recvL 1) _ (by decide)).add _ (.recvO 1) _ (by decide)
theorem above0 (c : Dev nD) : Above 1 ((0 : CellTallies nD τ sig Unit) + dueL 2 c + dueO 2 c + dueL 1 c + dueO 1 c + dueL 0 c + dueO 0 c) :=
  (((above1 c).mono (by decide)).add _ (.recvL 0) _ (by decide)).add _ (.recvO 0) _ (by decide)
theorem aboveAll (c : Dev nD) : Above 0 (owedAll c) :=
  ((((above0 c).mono (by decide)).add _ .bar _ (by decide)).add _ .bar _ (by decide)).add _ .bar _ (by decide)

/-! ## The whole run -/

/-- What a device needs of its barrier. -/
def barIn (c : Dev nD) : sProp 𝕄 :=
  iprop(atPos ER (cell c .bar) 0 ∅ 0 ∗ cred (tallyAt (cell c .bar) () 3)
    ∗ (dutyTok ER (cell (peer 0 c) .bar) 0 0 ∗ dutyTok ER (cell (peer 1 c) .bar) 0 1 ∗ dutyTok ER (cell (peer 2 c) .bar) 0 2))
/-- What it needs of exchange `h`, and its landing semaphores ready. -/
def excIn (h : Fin 3) (c : Dev nD) : sProp 𝕄 :=
  iprop((opened h c ∗ toks h c) ∗ reached ER (cell c (.recvO h)) 0 ∗ reached ER (cell c (.recvL h)) 0)
/-- Its accumulators, at some contents. -/
def accs (c : Dev nD) : sProp 𝕄 :=
  iprop((∃ f, accO.view.loc (c : Thread nD τ) ↦[accO.view.set]{fullShare} f) ∗ (∃ f, accL.view.loc (c : Thread nD τ) ↦[accL.view.set]{fullShare} f))
/-- Its landing slabs of exchange `h`, at some contents. -/
def slabs (h : Fin 3) (c : Dev nD) : sProp 𝕄 := iprop(anyO (F := F) h c ∗ anyL (F := F) h c)

theorem accs_back (c : Dev nD) (a : Part F) : iprop(holdO c a ∗ holdL c a) ⊢ (accs c : sProp 𝕄) := by
  unfold holdO holdL accs
  iintro ⟨⟨%f, H, -⟩, ⟨%g, G, -⟩⟩
  isplitl [H]
  · iexists f; iexact H
  · iexists g; iexact G

theorem lend_of (h : Fin 3) (c : Dev nD) :
    iprop(slabs h c ∗ reached ER (cell c (.recvO h)) 0 ∗ reached ER (cell c (.recvL h)) 0) ⊢ (lend h c : sProp 𝕄) := by
  unfold slabs lend
  iintro ⟨⟨H1, H2⟩, H3, H4⟩
  isplitl [H1]; · iexact H1
  isplitl [H2]; · iexact H2
  isplitl [H3]; · iexact H3
  iexact H4

/-- What a device is left with, beside its partial result and its output. -/
def combOut (c : Dev nD) : sProp 𝕄 :=
  iprop(accs c ∗ (slabs 0 c ∗ slabs 1 c ∗ slabs 2 c) ∗ (shut 0 c ∗ shut 1 c ∗ shut 2 c) ∗ semVal (cell c .bar) 0
    ∗ ∃ W', owes (c : Thread nD τ) 0 W')

set_option maxHeartbeats 1000000 in
/-- The combining kernel on device `c` leaves its output at the value of what all devices gather. -/
theorem comb_run (K : GSem nD τ sig → ℕ) (c : Dev nD) (m0 : Memref sig .tc .vmem S16x1024 .f32) (m1 m2 : Memref sig .tc .vmem S16x16 .f32)
    (m3 : Memref sig .tc .vmem S16x1024 .f32) (x : Vec F S16x1024 .f32) (W : Waits sig Unit) (Kt : PUnit → sProp 𝕄) :
    iprop(known e K ∗ levAts L lv ∗ barIn c ∗ (excIn 0 c ∗ excIn 1 c ∗ excIn 2 c) ∗ accs c ∗ (slabs 0 c ∗ slabs 1 c ∗ slabs 2 c)
        ∗ owes (c : Thread nD τ) (owedAll c) W
        ∗ (owns (c : Thread nD τ) m0 fullShare (e c).o ∗ owns (c : Thread nD τ) m1 fullShare (e c).m ∗ owns (c : Thread nD τ) m2 fullShare (e c).l
            ∗ owns (c : Thread nD τ) m3 fullShare x)
        ∗ (((owns (c : Thread nD τ) m0 fullShare (e c).o ∗ owns (c : Thread nD τ) m1 fullShare (e c).m ∗ owns (c : Thread nD τ) m2 fullShare (e c).l
            ∗ owns (c : Thread nD τ) m3 fullShare (gathered e 3 c).value) ∗ combOut c) -∗ Kt ⟨⟩))
      ⊢ run c (comb m0 m1 m2 m3 (devs c)) Kt := by
  have hd : comb (F := F) m0 m1 m2 m3 (devs c) = (barrier (peer 0 c) (peer 1 c) (peer 2 c) >>= fun _ => start m0 m1 m2 >>= fun _ =>
      swap 0 (peer 0 c) (peer 0 c) >>= fun _ => merge 0 mask >>= fun _ => swap 1 (peer 1 c) (peer 1 c) >>= fun _ => merge 1 mask >>= fun _ =>
      swap 2 (peer 2 c) (peer 2 c) >>= fun _ => merge 2 mask >>= fun _ => finish m3 mask) := by
    rw [← dev1_eq c, ← dev2_eq c, ← dev3_eq c]
    show comb m0 m1 m2 m3 (devs c) = _
    unfold comb devs
    simp only [dev1_eq, dev2_eq, dev3_eq, dev4_eq, dev5_eq, dev6_eq, dev7_eq, dev8_eq, dev9_eq]
    rfl
  rw [hd, run_bind]
  unfold barIn excIn owedAll
  iintro ⟨#HK, #Hlev, ⟨Hba, Hbc, Hbt⟩, ⟨⟨Hx0, #Hr0, #Hs0⟩, ⟨Hx1, #Hr1, #Hs1⟩, ⟨Hx2, #Hr2, #Hs2⟩⟩, Hacc, ⟨Hl0, Hl1, Hl2⟩, HO, ⟨H0, H1, H2, H3⟩, Hk⟩
  iapply (barrier_run e K c _ (above0 c) W _)
  isplitr; · iexact HK
  isplitr; · iexact Hlev
  isplitl [Hba]; · iexact Hba
  isplitl [Hbc]; · iexact Hbc
  isplitl [Hbt]; · iexact Hbt
  isplitl [Hl0 Hl1 Hl2]
  · isplitl [Hl0]
    · iapply (lend_of 0 c) $$ [Hl0]; isplitl [Hl0]; · iexact Hl0
      isplitr; · iexact Hr0
      iexact Hs0
    isplitl [Hl1]
    · iapply (lend_of 1 c) $$ [Hl1]; isplitl [Hl1]; · iexact Hl1
      isplitr; · iexact Hr1
      iexact Hs1
    · iapply (lend_of 2 c) $$ [Hl2]; isplitl [Hl2]; · iexact Hl2
      isplitr; · iexact Hr2
      iexact Hs2
  isplitl [HO]; · iexact HO
  iintro %W0 ⟨⟨Hp0, Hp1, Hp2⟩, Hbv, HO⟩
  rw [run_bind]
  unfold accs
  icases Hacc with ⟨Hao, Hal⟩
  iapply (start_run c m0 m1 m2 (e c) _)
  isplitl [H0]; · iexact H0
  isplitl [H1]; · iexact H1
  isplitl [H2]; · iexact H2
  isplitl [Hao]; · iexact Hao
  isplitl [Hal]; · iexact Hal
  iintro ⟨H0, H1, H2, Ho, Hl⟩
  iapply (step_run e K 0 c _ (above1 c) W0 _ Kt)
  isplitr; · iexact HK
  isplitr; · iexact Hlev
  isplitl [Hx0]; · iexact Hx0
  isplitl [Ho]; · iexact Ho
  isplitl [Hl]; · iexact Hl
  isplitl [Hp0]; · iexact Hp0
  isplitl [HO]; · iexact HO
  iintro %W1 ⟨Ho, Hl, Hl0, Hsh0, HO⟩
  iapply (step_run e K 1 c _ (above2 c) W1 _ Kt)
  isplitr; · iexact HK
  isplitr; · iexact Hlev
  isplitl [Hx1]; · iexact Hx1
  isplitl [Ho]; · iexact Ho
  isplitl [Hl]; · iexact Hl
  isplitl [Hp1]; · iexact Hp1
  isplitl [HO]; · iexact HO
  iintro %W2 ⟨Ho, Hl, Hl1, Hsh1, HO⟩
  iapply (step_run e K 2 c 0 (Above.zero _) W2 _ Kt)
  isplitr; · iexact HK
  isplitr; · iexact Hlev
  isplitl [Hx2]; · iexact Hx2
  isplitl [Ho]; · iexact Ho
  isplitl [Hl]; · iexact Hl
  isplitl [Hp2]; · iexact Hp2
  isplitl [HO]; · iexact HO
  iintro %W3 ⟨Ho, Hl, Hl2, Hsh2, HO⟩
  iapply (finish_run c m3 (gathered e 3 c) x Kt)
  isplitl [Ho]; · iexact Ho
  isplitl [Hl]; · iexact Hl
  isplitl [H3]; · iexact H3
  iintro ⟨Ho, Hl, H3⟩
  iapply Hk
  isplitl [H0 H1 H2 H3]
  · isplitl [H0]; · iexact H0
    isplitl [H1]; · iexact H1
    isplitl [H2]; · iexact H2
    iexact H3
  unfold combOut
  isplitl [Ho Hl]
  · iapply (accs_back c (gathered e 3 c)) $$ [Ho Hl]; isplitl [Ho] <;> iassumption
  isplitl [Hl0 Hl1 Hl2]
  · unfold slabs
    isplitl [Hl0]; · iexact Hl0
    isplitl [Hl1]; · iexact Hl1
    iexact Hl2
  isplitl [Hsh0 Hsh1 Hsh2]
  · isplitl [Hsh0]; · iexact Hsh0
    isplitl [Hsh1]; · iexact Hsh1
    iexact Hsh2
  isplitl [Hbv]; · iexact Hbv
  iexists W3; iexact HO

end Cert.KernelIdeal.Comb

end
-- ==== Proof.KernelIdeal.Slabs.lean ====
/-
  The landing buffers, held whole or slab by slab.
-/
module

public import proofs.«01_k».proof.Proof.KernelIdeal.Local
public import Idealize.ShloMosaic.Lib.Ring

@[expose] public section

noncomputable section

namespace Cert.KernelIdeal.Comb

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ UU ℕ

abbrev rectO (h : Fin 3) : Rect S3x16x1024 := Rect.unit (s := S3x16x1024) ![h.val, 0, 0] S1x16x1024.size (inbO h)
abbrev rectL (h : Fin 3) : Rect S3x2x16x16 := Rect.unit (s := S3x2x16x16) ![h.val, 0, 0, 0] S1x2x16x16.size (inbL h)

theorem rectO_disj (h h' : Fin 3) (hn : h ≠ h') : Disjoint (rectO h).set (rectO h').set :=
  Ring.lead_disjoint (s := S3x16x1024) (NB := 3) (0 : Fin 3) 1 (fun b => ![b.val, 0, 0]) S1x16x1024.size inbO (fun b => (Nat.one_mul _).symm) rfl h h' hn
theorem rectL_disj (h h' : Fin 3) (hn : h ≠ h') : Disjoint (rectL h).set (rectL h').set :=
  Ring.lead_disjoint (s := S3x2x16x16) (NB := 3) (0 : Fin 4) 1 (fun b => ![b.val, 0, 0, 0]) S1x2x16x16.size inbL (fun b => (Nat.one_mul _).symm) rfl h h' hn
theorem rectO_cover : Finset.univ.biUnion (fun h => (rectO h).set) = Finset.univ :=
  Ring.lead_cover (s := S3x16x1024) (NB := 3) (0 : Fin 3) 1 (fun b => ![b.val, 0, 0]) S1x16x1024.size inbO (fun b => (Nat.one_mul _).symm)
    (by decide) rfl (by decide) rfl
theorem rectL_cover : Finset.univ.biUnion (fun h => (rectL h).set) = Finset.univ :=
  Ring.lead_cover (s := S3x2x16x16) (NB := 3) (0 : Fin 4) 1 (fun b => ![b.val, 0, 0, 0]) S1x2x16x16.size inbL (fun b => (Nat.one_mul _).symm)
    (by decide) rfl (by decide) rfl

/-- Disjoint rectangles that cover an array, through a view of all of a buffer: disjoint sets that cover the buffer. -/
theorem sets_of_rects {s : Shape} (v : View sig .tc .vmem s .f32) (hv : v.set = Finset.univ) (I : Fin 3 → Finset v.ty.Idx) (r : Fin 3 → Rect s)
    (hI : ∀ h, I h = (r h).set.map v.emb) (hd : ∀ h h', h ≠ h' → Disjoint (r h).set (r h').set) (hc : Finset.univ.biUnion (fun h => (r h).set) = Finset.univ) :
    (∀ h h', h ≠ h' → Disjoint (I h) (I h')) ∧ Finset.univ.biUnion I = Finset.univ := by
  refine ⟨fun h h' hn => ?_, ?_⟩
  · rw [hI, hI, Finset.disjoint_map]; exact hd h h' hn
  · rw [← hv]
    ext i
    constructor
    · intro _; rw [hv]; exact Finset.mem_univ i
    · intro hi
      obtain ⟨j, -, rfl⟩ := Finset.mem_map.mp hi
      have hj : j ∈ Finset.univ.biUnion (fun h => (r h).set) := by rw [hc]; exact Finset.mem_univ j
      obtain ⟨h, -, hj⟩ := Finset.mem_biUnion.mp hj
      refine Finset.mem_biUnion.mpr ⟨h, Finset.mem_univ h, ?_⟩
      rw [hI]; exact Finset.mem_map_of_mem _ hj

/-- A buffer held whole at some contents is its three blocks, each at some contents. -/
theorem blocks3 {ℓ : Loc nD τ sig} (I : Fin 3 → Finset (Idx ℓ)) (hd : ∀ h h', h ≠ h' → Disjoint (I h) (I h')) (hc : Finset.univ.biUnion I = Finset.univ) :
    (iprop(∃ f : Buf (Elt F) ℓ, ℓ ↦{fullShare} f) : sProp 𝕄)
      ⊢ iprop((∃ f : Buf (Elt F) ℓ, ℓ ↦[I 0]{fullShare} f) ∗ (∃ f : Buf (Elt F) ℓ, ℓ ↦[I 1]{fullShare} f) ∗ (∃ f : Buf (Elt F) ℓ, ℓ ↦[I 2]{fullShare} f)) := by
  iintro ⟨%f, H⟩
  ihave H := (Entails.of_eq (Ring.pointsTo_blocks I hd hc f)) $$ H
  ihave H := (Entails.of_eq (show (bigSep Finset.univ fun b => (ℓ ↦[I b]{fullShare} f : sProp 𝕄)) = iprop((ℓ ↦[I 0]{fullShare} f) ∗ (ℓ ↦[I 1]{fullShare} f) ∗ (ℓ ↦[I 2]{fullShare} f)) by
    rw [show (Finset.univ : Finset (Fin 3)) = insert 0 (insert 1 {2}) by decide, bigSep_insert (by decide), bigSep_insert (by decide), bigSep_singleton]; rfl)) $$ H
  icases H with ⟨H0, H1, H2⟩
  isplitl [H0]; · iexists f; iexact H0
  isplitl [H1]; · iexists f; iexact H1
  iexists f; iexact H2
theorem blocks3_join {ℓ : Loc nD τ sig} (I : Fin 3 → Finset (Idx ℓ)) (hd : ∀ h h', h ≠ h' → Disjoint (I h) (I h')) (hc : Finset.univ.biUnion I = Finset.univ) :
    iprop((∃ f : Buf (Elt F) ℓ, ℓ ↦[I 0]{fullShare} f) ∗ (∃ f : Buf (Elt F) ℓ, ℓ ↦[I 1]{fullShare} f) ∗ (∃ f : Buf (Elt F) ℓ, ℓ ↦[I 2]{fullShare} f))
      ⊢ (iprop(∃ f : Buf (Elt F) ℓ, ℓ ↦{fullShare} f) : sProp 𝕄) := by
  iintro ⟨⟨%f, H0⟩, H1, H2⟩
  iapply (Ring.pointsTo_blocks_join_exists I hd hc f)
  iapply (Entails.of_eq (show (bigSep Finset.univ fun b => (iprop(∃ f : Buf (Elt F) ℓ, ℓ ↦[I b]{fullShare} f) : sProp 𝕄))
      = iprop((∃ f : Buf (Elt F) ℓ, ℓ ↦[I 0]{fullShare} f) ∗ (∃ f : Buf (Elt F) ℓ, ℓ ↦[I 1]{fullShare} f) ∗ (∃ f : Buf (Elt F) ℓ, ℓ ↦[I 2]{fullShare} f)) by
    rw [show (Finset.univ : Finset (Fin 3)) = insert 0 (insert 1 {2}) by decide, bigSep_insert (by decide), bigSep_insert (by decide), bigSep_singleton]; rfl).symm)
  isplitl [H0]; · iexists f; iexact H0
  isplitl [H1]; · iexact H1
  iexact H2

/-- The elements of slab `h`, in the landing buffer. -/
abbrev setO (h : Fin 3) : Finset (landO.view.ty.Idx) := (slabO h).view.set
abbrev setL (h : Fin 3) : Finset (landL.view.ty.Idx) := (slabL h).view.set

theorem slabsO_sets : (∀ h h', h ≠ h' → Disjoint (setO h) (setO h')) ∧ Finset.univ.biUnion setO = Finset.univ :=
  sets_of_rects landO.view (View.set_whole _) setO rectO slabO_view rectO_disj rectO_cover
theorem slabsL_sets : (∀ h h', h ≠ h' → Disjoint (setL h) (setL h')) ∧ Finset.univ.biUnion setL = Finset.univ :=
  sets_of_rects landL.view (View.set_whole _) setL rectL slabL_view rectL_disj rectL_cover

/-- A landing buffer at some contents: its slabs, each at some contents. -/
theorem landO_split (c : Dev nD) : (iprop(∃ f : Buf (Elt F) ((c : Thread nD τ).loc cc1_scratch2), ((c : Thread nD τ).loc cc1_scratch2) ↦{fullShare} f) : sProp 𝕄)
    ⊢ iprop(anyO (F := F) 0 c ∗ anyO (F := F) 1 c ∗ anyO (F := F) 2 c) :=
  blocks3 (ℓ := (c : Thread nD τ).loc cc1_scratch2) setO slabsO_sets.1 slabsO_sets.2
theorem landO_join (c : Dev nD) : iprop(anyO (F := F) 0 c ∗ anyO (F := F) 1 c ∗ anyO (F := F) 2 c)
    ⊢ (iprop(∃ f : Buf (Elt F) ((c : Thread nD τ).loc cc1_scratch2), ((c : Thread nD τ).loc cc1_scratch2) ↦{fullShare} f) : sProp 𝕄) :=
  blocks3_join (ℓ := (c : Thread nD τ).loc cc1_scratch2) setO slabsO_sets.1 slabsO_sets.2
theorem landL_split (c : Dev nD) : (iprop(∃ f : Buf (Elt F) ((c : Thread nD τ).loc cc1_scratch3), ((c : Thread nD τ).loc cc1_scratch3) ↦{fullShare} f) : sProp 𝕄)
    ⊢ iprop(anyL (F := F) 0 c ∗ anyL (F := F) 1 c ∗ anyL (F := F) 2 c) :=
  blocks3 (ℓ := (c : Thread nD τ).loc cc1_scratch3) setL slabsL_sets.1 slabsL_sets.2
theorem landL_join (c : Dev nD) : iprop(anyL (F := F) 0 c ∗ anyL (F := F) 1 c ∗ anyL (F := F) 2 c)
    ⊢ (iprop(∃ f : Buf (Elt F) ((c : Thread nD τ).loc cc1_scratch3), ((c : Thread nD τ).loc cc1_scratch3) ↦{fullShare} f) : sProp 𝕄) :=
  blocks3_join (ℓ := (c : Thread nD τ).loc cc1_scratch3) setL slabsL_sets.1 slabsL_sets.2

/-- An accumulator at some contents, named by its buffer. -/
theorem accO_whole (c : Dev nD) : (iprop(∃ f, accO.view.loc (c : Thread nD τ) ↦[accO.view.set]{fullShare} f) : sProp 𝕄)
    = iprop(∃ f : Buf (Elt F) ((c : Thread nD τ).loc cc1_scratch0), ((c : Thread nD τ).loc cc1_scratch0) ↦{fullShare} f) := by
  rw [show accO.view.set = Finset.univ from View.set_whole _]
theorem accL_whole (c : Dev nD) : (iprop(∃ f, accL.view.loc (c : Thread nD τ) ↦[accL.view.set]{fullShare} f) : sProp 𝕄)
    = iprop(∃ f : Buf (Elt F) ((c : Thread nD τ).loc cc1_scratch1), ((c : Thread nD τ).loc cc1_scratch1) ↦{fullShare} f) := by
  rw [show accL.view.set = Finset.univ from View.set_whole _]

end Cert.KernelIdeal.Comb

end
-- ==== Proof.KernelIdeal.Region1.lean ====
/-
  The second kernel region: the combining kernel at its one grid point, its proof data, what it enters with and leaves.
-/
module

public import proofs.«01_k».proof.Proof.KernelIdeal.Comb
public import proofs.«01_k».proof.Proof.KernelIdeal.Slabs
public import proofs.«01_k».proof.Proof.Gen.KernelIdeal.Points
public import proofs.«01_k».proof.Proof.Gen.KernelIdeal.Regions
public import Idealize.ShloMosaic.Lib.Pipeline.ValueKit

@[expose] public section

noncomputable section

namespace Cert.KernelIdeal.Comb

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ UU ℕ

/-! ## The semaphores of the kernel, dormant until it is entered -/

/-- The kernel's own transfer semaphores, exchange by exchange. -/
abbrev own1 (k : (_ : Fin 3) × Fin 4) : SemLoc sig :=
  match k.2 with
  | 0 => (Role.sendO k.1).sem | 1 => (Role.recvO k.1).sem | 2 => (Role.sendL k.1).sem | 3 => (Role.recvL k.1).sem

theorem ownFacts1 : Pipeline.OwnSemFacts spec1 own1 := by decide

theorem ownSems1_eq (c : Dev nD) : (Pipeline.ownSems0 own1 c : sProp 𝕄) = iprop(shut 0 c ∗ shut 1 c ∗ shut 2 c) := by
  unfold Pipeline.ownSems0
  rw [Pipeline.bigSep_univ_sigma, bigSep_fin3]
  have h (h : Fin 3) : (bigSep Finset.univ fun j : Fin 4 => (semVal ((c : Thread nD τ), own1 ⟨h, j⟩) 0 : sProp 𝕄)) = shut h c := by
    generalize hf : (fun j : Fin 4 => (semVal ((c : Thread nD τ), own1 ⟨h, j⟩) 0 : sProp 𝕄)) = f
    rw [show bigSep Finset.univ f = iprop(f 0 ∗ f 1 ∗ f 2 ∗ f 3) from bigSep_univ_eq_bigSepL [0, 1, 2, 3] (by decide) (by decide) f, ← hf]
    rfl
  rw [h 0, h 1, h 2]

variable (e : Dev nD → Part F)

/-- What a device holds of exchange `h` from the launch on: the rights to open its four semaphores, and to pay. -/
def excTk (h : Fin 3) (c : Dev nD) : sProp 𝕄 :=
  iprop((openTok ER (cell c (.sendO h)) ∗ openTok ER (cell c (.recvO h)) ∗ openTok ER (cell c (.sendL h)) ∗ openTok ER (cell c (.recvL h))) ∗ toks h c)

theorem exc_open (K : GSem nD τ sig → ℕ) (h : Fin 3) (c : Dev nD) :
    iprop(known e K ∗ excTk h c ∗ shut h c) ⊢ (|={Set.univ}=> excIn h c : sProp 𝕄) := by
  unfold excTk shut
  iintro ⟨#HK, ⟨⟨t0, t1, t2, t3⟩, Htk⟩, v0, v1, v2, v3⟩
  ihave I0 := (known_inv e K c (.sendO h)) $$ HK
  imod (Rounds.cell_open ER (rd e) (g := cell c (.sendO h)) (Set.mem_univ (K (cell c (.sendO h))))) $$ [I0 t0 v0] with ⟨a0, #r0⟩
  · isplitl [I0]; · iexact I0
    isplitl [t0] <;> iassumption
  ihave I1 := (known_inv e K c (.recvO h)) $$ HK
  imod (Rounds.cell_open ER (rd e) (g := cell c (.recvO h)) (Set.mem_univ (K (cell c (.recvO h))))) $$ [I1 t1 v1] with ⟨a1, #r1⟩
  · isplitl [I1]; · iexact I1
    isplitl [t1] <;> iassumption
  ihave I2 := (known_inv e K c (.sendL h)) $$ HK
  imod (Rounds.cell_open ER (rd e) (g := cell c (.sendL h)) (Set.mem_univ (K (cell c (.sendL h))))) $$ [I2 t2 v2] with ⟨a2, #r2⟩
  · isplitl [I2]; · iexact I2
    isplitl [t2] <;> iassumption
  ihave I3 := (known_inv e K c (.recvL h)) $$ HK
  imod (Rounds.cell_open ER (rd e) (g := cell c (.recvL h)) (Set.mem_univ (K (cell c (.recvL h))))) $$ [I3 t3 v3] with ⟨a3, #r3⟩
  · isplitl [I3]; · iexact I3
    isplitl [t3] <;> iassumption
  imodintro
  unfold excIn opened
  isplitl
  · isplitr [Htk]
    · isplitl [a0]; · iexact a0
      isplitl [a1]; · iexact a1
      isplitl [a2]; · iexact a2
      isplitl [a3]; · iexact a3
      isplitr; · iexact r0
      iexact r2
    · iexact Htk
  isplitr; · iexact r1
  iexact r3

/-- What a device carries from the launch to the region. -/
def talk (c : Dev nD) : sProp 𝕄 := iprop((∃ K, known e K) ∗ barIn c ∗ (excTk 0 c ∗ excTk 1 c ∗ excTk 2 c))
/-- The same, every semaphore open. -/
def talking (c : Dev nD) : sProp 𝕄 := iprop((∃ K, known e K) ∗ levAts L lv ∗ barIn c ∗ (excIn 0 c ∗ excIn 1 c ∗ excIn 2 c))

theorem talk_open (c : Dev nD) : iprop(talk e c ∗ Pipeline.ownSems0 own1 c ∗ levAts L lv) ⊢ (|={Set.univ}=> talking e c : sProp 𝕄) := by
  unfold talk
  iintro ⟨⟨⟨%K, #HK⟩, Hb, x0, x1, x2⟩, Hs, #Hlev⟩
  ihave Hs := (Entails.of_eq (ownSems1_eq c)) $$ Hs
  icases Hs with ⟨s0, s1, s2⟩
  imod (exc_open e K 0 c) $$ [x0 s0] with x0
  · isplitr; · iexact HK
    isplitl [x0] <;> iassumption
  imod (exc_open e K 1 c) $$ [x1 s1] with x1
  · isplitr; · iexact HK
    isplitl [x1] <;> iassumption
  imod (exc_open e K 2 c) $$ [x2 s2] with x2
  · isplitr; · iexact HK
    isplitl [x2] <;> iassumption
  imodintro
  unfold talking
  isplitr; · iexists K; iexact HK
  isplitr; · iexact Hlev
  isplitl [Hb]; · iexact Hb
  isplitl [x0]; · iexact x0
  isplitl [x1] <;> iassumption

/-! ## The scratch buffers -/

theorem accs_whole (c : Dev nD) : (accs c : sProp 𝕄)
    = iprop((∃ f : Buf (Elt F) ((c : Thread nD τ).loc cc1_scratch0), ((c : Thread nD τ).loc cc1_scratch0) ↦{fullShare} f)
      ∗ (∃ f : Buf (Elt F) ((c : Thread nD τ).loc cc1_scratch1), ((c : Thread nD τ).loc cc1_scratch1) ↦{fullShare} f)) := by
  unfold accs
  rw [accO_whole, accL_whole]

/-- The accumulators and the landing slabs, out of the scoped buffers and back. -/
theorem scratch1 (c : Dev nD) : (Pipeline.scopedRest (Ix := Unit) (Name := ℕ) (U := UU) (Lvl := ℕ) (Val := Elt F) spec1 c : sProp 𝕄)
    ⊢ iprop((accs c ∗ (slabs 0 c ∗ slabs 1 c ∗ slabs 2 c))
      ∗ ((accs c ∗ (slabs 0 c ∗ slabs 1 c ∗ slabs 2 c)) -∗ Pipeline.scopedRest (Ix := Unit) (Name := ℕ) (U := UU) (Lvl := ℕ) (Val := Elt F) spec1 c)) := by
  rw [scopedRest1_eq, accs_whole]
  unfold slabs
  iintro ⟨a0, a1, a2, a3, a4, a5, a6, a7, a8, a9, a10, a11, b0, b1, b2, b3⟩
  ihave b2 := (landO_split c) $$ b2
  icases b2 with ⟨o0, o1, o2⟩
  ihave b3 := (landL_split c) $$ b3
  icases b3 with ⟨l0, l1, l2⟩
  isplitl [b0 b1 o0 o1 o2 l0 l1 l2]
  · isplitl [b0 b1]; · isplitl [b0] <;> iassumption
    isplitl [o0 l0]; · isplitl [o0] <;> iassumption
    isplitl [o1 l1]; · isplitl [o1] <;> iassumption
    isplitl [o2] <;> iassumption
  iintro ⟨⟨b0, b1⟩, ⟨o0, l0⟩, ⟨o1, l1⟩, o2, l2⟩
  ihave b2 := (landO_join c) $$ [o0 o1 o2]
  · isplitl [o0]; · iexact o0
    isplitl [o1] <;> iassumption
  ihave b3 := (landL_join c) $$ [l0 l1 l2]
  · isplitl [l0]; · iexact l0
    isplitl [l1] <;> iassumption
  isplitl [a0]; · iexact a0
  isplitl [a1]; · iexact a1
  isplitl [a2]; · iexact a2
  isplitl [a3]; · iexact a3
  isplitl [a4]; · iexact a4
  isplitl [a5]; · iexact a5
  isplitl [a6]; · iexact a6
  isplitl [a7]; · iexact a7
  isplitl [a8]; · iexact a8
  isplitl [a9]; · iexact a9
  isplitl [a10]; · iexact a10
  isplitl [a11]; · iexact a11
  isplitl [b0]; · iexact b0
  isplitl [b1]; · iexact b1
  isplitl [b2]; · iexact b2
  iexact b3

/-! ## The proof data -/

variable (V : Dev nD → Valuation τ sig (Elt F))

/-- The partial result a device enters with: its three arrays. -/
def enter (c : Dev nD) : Part F := ⟨V c main_v16, V c main_v17, V c main_v18⟩
/-- What it leaves: the value of what all devices gather. -/
def leave (c : Dev nD) : FVec F S16x1024 .f32 := (gathered (enter V) 3 c).value

/-- Before its one point the kernel holds the protocol's rights and owes everything; after it, the counters, and owes nothing. -/
def dat1 (c : Dev nD) : Dat τ (Elt F) Unit ℕ UU ℕ cfg1 c where
  A := fun | 0 => V c main_v16 | 1 => V c main_v17 | 2 => V c main_v18 | 3 => V c main_v19
  after := fun | 0, _ => (enter V c).o | 1, _ => (enter V c).m | 2, _ => (enter V c).l | 3, _ => leave V c
  Φ t := if t.val = 0
    then iprop(talking (enter V) c ∗ Pipeline.scopedRest spec1 c ∗ ∃ r, prngReg c r)
    else iprop(semVal (cell c .bar) 0 ∗ (shut 0 c ∗ shut 1 c ∗ shut 2 c) ∗ Pipeline.scopedRest spec1 c ∗ ∃ r, prngReg c r)
  q _ := fullShare
  owed t := if t.val = 0 then owedAll c else 0

theorem at1_0 : ∀ t : Fin cfg1.N, win1_0.index t = ![0, 0] := (by decide +kernel : ∀ t : Fin grid1.N, win1_0.index t = ![0, 0])
theorem at1_1 : ∀ t : Fin cfg1.N, win1_1.index t = ![0, 0] := (by decide +kernel : ∀ t : Fin grid1.N, win1_1.index t = ![0, 0])
theorem at1_2 : ∀ t : Fin cfg1.N, win1_2.index t = ![0, 0] := (by decide +kernel : ∀ t : Fin grid1.N, win1_2.index t = ![0, 0])
theorem at1_3 : ∀ t : Fin cfg1.N, win1_3.index t = ![0, 0] := (by decide +kernel : ∀ t : Fin grid1.N, win1_3.index t = ![0, 0])

/-- The body finds each input array whole in its staging buffer. -/
theorem before1_0 (c : Dev nD) (t : Fin cfg1.N) (d) : (dat1 V c).before 0 t d = (enter V c).o := by
  rw [(dat1 V c).before_fetched 0 t (fetch1_0 t)]
  show (dat1 V c).blockOf 0 t = _
  funext y; blk_simp
  show V c main_v16 _ = V c main_v16 _
  congr 1; blk_ext [at1_0 t]
theorem before1_1 (c : Dev nD) (t : Fin cfg1.N) (d) : (dat1 V c).before 1 t d = (enter V c).m := by
  rw [(dat1 V c).before_fetched 1 t (fetch1_1 t)]
  show (dat1 V c).blockOf 1 t = _
  funext y; blk_simp
  show V c main_v17 _ = V c main_v17 _
  congr 1; blk_ext [at1_1 t]
theorem before1_2 (c : Dev nD) (t : Fin cfg1.N) (d) : (dat1 V c).before 2 t d = (enter V c).l := by
  rw [(dat1 V c).before_fetched 2 t (fetch1_2 t)]
  show (dat1 V c).blockOf 2 t = _
  funext y; blk_simp
  show V c main_v18 _ = V c main_v18 _
  congr 1; blk_ext [at1_2 t]

/-! ## The body at the region's one point -/

theorem owesAt_of {cfg : Pipeline.Cfg sig Λ₀} {c : Dev nD} (dat : Dat τ (Elt F) Unit ℕ UU ℕ cfg c) (t : Fin (cfg.N + 1)) (O : CellTallies nD τ sig Unit)
    (hO : dat.owed t = O) (hr : dat.recorded t = Set.univ) : iprop(∃ W, owes (c : Thread nD τ) O W) ⊢ (dat.owesAt () t : sProp 𝕄) := by
  subst hO
  unfold Dat.owesAt Pipeline.owesWithin Dat.bound
  rw [hr]
  iintro ⟨%W, H⟩
  iexists W
  isplitr
  · ipureintro; exact fun _ _ => Or.inl trivial
  · iexact H
theorem of_owesAt {cfg : Pipeline.Cfg sig Λ₀} {c : Dev nD} (dat : Dat τ (Elt F) Unit ℕ UU ℕ cfg c) (t : Fin (cfg.N + 1)) (O : CellTallies nD τ sig Unit)
    (hO : dat.owed t = O) : (dat.owesAt () t : sProp 𝕄) ⊢ iprop(∃ W, owes (c : Thread nD τ) O W) := by
  subst hO
  unfold Dat.owesAt Pipeline.owesWithin
  iintro ⟨%W, -, H⟩
  iexists W; iexact H

theorem phi1_first (c : Dev nD) (t : Fin (cfg1.N + 1)) (h : t.val = 0) :
    (dat1 V c).Φ t = iprop(talking (enter V) c ∗ Pipeline.scopedRest spec1 c ∗ ∃ r, prngReg c r) := if_pos h
theorem phi1_last (c : Dev nD) (t : Fin (cfg1.N + 1)) (h : t.val ≠ 0) :
    (dat1 V c).Φ t = iprop(semVal (cell c .bar) 0 ∗ (shut 0 c ∗ shut 1 c ∗ shut 2 c) ∗ Pipeline.scopedRest spec1 c ∗ ∃ r, prngReg c r) := if_neg h
theorem owed1_first (c : Dev nD) (t : Fin (cfg1.N + 1)) (h : t.val = 0) : (dat1 V c).owed t = owedAll c := if_pos h
theorem owed1_last (c : Dev nD) (t : Fin (cfg1.N + 1)) (h : t.val ≠ 0) : (dat1 V c).owed t = 0 := if_neg h

theorem body1_run (c : Dev nD) (t : Fin cfg1.N) (x : Vec F S16x1024 .f32) (W : Waits sig Unit) (Kt : PUnit → sProp 𝕄) :
    iprop(talking (enter V) c ∗ Pipeline.scopedRest spec1 c ∗ owes (c : Thread nD τ) (owedAll c) W
        ∗ (owns (c : Thread nD τ) (st1_0 t) fullShare (enter V c).o ∗ owns (c : Thread nD τ) (st1_1 t) fullShare (enter V c).m
          ∗ owns (c : Thread nD τ) (st1_2 t) fullShare (enter V c).l ∗ owns (c : Thread nD τ) (st1_3 t) fullShare x)
        ∗ (((owns (c : Thread nD τ) (st1_0 t) fullShare (enter V c).o ∗ owns (c : Thread nD τ) (st1_1 t) fullShare (enter V c).m
          ∗ owns (c : Thread nD τ) (st1_2 t) fullShare (enter V c).l ∗ owns (c : Thread nD τ) (st1_3 t) fullShare (leave V c))
          ∗ Pipeline.scopedRest spec1 c ∗ (shut 0 c ∗ shut 1 c ∗ shut 2 c) ∗ semVal (cell c .bar) 0 ∗ ∃ W', owes (c : Thread nD τ) 0 W') -∗ Kt ⟨⟩))
      ⊢ run c (bodyAt1 t) Kt := by
  rw [show bodyAt1 (F := F) t = (.op .deviceId fun d => comb (st1_0 t) (st1_1 t) (st1_2 t) (st1_3 t) (devs d)) from body_eq _ _ _ _ _ _ _ _,
    run, wp_deviceId]
  unfold talking
  iintro ⟨⟨⟨%K, HK⟩, Hlev, Hb, Hx⟩, Hs, HO, Hw, Hk⟩
  ihave Hs := (scratch1 c) $$ Hs
  icases Hs with ⟨⟨Ha, Hsl⟩, Hback⟩
  iapply (comb_run (enter V) K c (st1_0 t) (st1_1 t) (st1_2 t) (st1_3 t) x W Kt)
  isplitl [HK]; · iexact HK
  isplitl [Hlev]; · iexact Hlev
  isplitl [Hb]; · iexact Hb
  isplitl [Hx]; · iexact Hx
  isplitl [Ha]; · iexact Ha
  isplitl [Hsl]; · iexact Hsl
  isplitl [HO]; · iexact HO
  isplitl [Hw]; · iexact Hw
  unfold combOut
  iintro ⟨Hw, Ha, Hsl, Hsh, Hbar, HO⟩
  iapply Hk
  isplitl [Hw]; · iexact Hw
  isplitl [Ha Hsl Hback]
  · iapply Hback
    isplitl [Ha] <;> iassumption
  isplitl [Hsh]; · iexact Hsh
  isplitl [Hbar] <;> iassumption

theorem body1 (c : Dev nD) : BodyObligation (dat1 V c) defs₀ 𝒱₀ () Set.univ := fun t => by
  have ht : t.val = 0 := by have := t.isLt; simp only [show cfg1.N = 1 from N_1] at this; omega
  rw [bigSep_W1, bigSep_W1, phi1_first V c t.castSucc ht, phi1_last V c t.succ (by simp)]
  show iprop(_ ∗ _ ∗ (∃ d, owns (c : Thread nD τ) (st1_0 t) fullShare ((dat1 V c).before 0 t d)) ∗ (∃ d, owns (c : Thread nD τ) (st1_1 t) fullShare ((dat1 V c).before 1 t d))
      ∗ (∃ d, owns (c : Thread nD τ) (st1_2 t) fullShare ((dat1 V c).before 2 t d)) ∗ (∃ d, owns (c : Thread nD τ) (st1_3 t) fullShare ((dat1 V c).before 3 t d)))
    ⊢ run c (bodyAt1 t) fun _ => iprop(_ ∗ _ ∗ owns (c : Thread nD τ) (st1_0 t) fullShare (enter V c).o ∗ owns (c : Thread nD τ) (st1_1 t) fullShare (enter V c).m
      ∗ owns (c : Thread nD τ) (st1_2 t) fullShare (enter V c).l ∗ owns (c : Thread nD τ) (st1_3 t) fullShare (leave V c))
  iintro ⟨⟨Htk, Hs, Hp⟩, HO, ⟨%d0, H0⟩, ⟨%d1, H1⟩, ⟨%d2, H2⟩, ⟨%d3, H3⟩⟩
  rw [before1_0, before1_1, before1_2]
  ihave HO := (of_owesAt (dat1 V c) t.castSucc (owedAll c) (owed1_first V c t.castSucc ht)) $$ HO
  icases HO with ⟨%W, HO⟩
  iapply (body1_run V c t _ W _)
  isplitl [Htk]; · iexact Htk
  isplitl [Hs]; · iexact Hs
  isplitl [HO]; · iexact HO
  isplitl [H0 H1 H2 H3]
  · isplitl [H0]; · iexact H0
    isplitl [H1]; · iexact H1
    isplitl [H2]; · iexact H2
    iexact H3
  iintro ⟨Hw, Hs, Hsh, Hbar, HO⟩
  isplitl [Hbar Hsh Hs Hp]
  · isplitl [Hbar]; · iexact Hbar
    isplitl [Hsh]; · iexact Hsh
    isplitl [Hs] <;> iassumption
  isplitl [HO]
  · iapply (owesAt_of (dat1 V c) t.succ 0 (owed1_last V c t.succ (by simp)) rfl)
    iexact HO
  iexact Hw

/-! ## The record -/

/-- What the region leaves: its output at the value of what all devices gather, everything else as it was. -/
def after1 (c : Dev nD) : Valuation τ sig (Elt F) := Function.update (V c) main_v19 (leave V c)

theorem arr1_in (c : Dev nD) (w : Fin 4) : (dat1 V c).arrAt w 0 = V c (Proc.devRef .tc (Pipeline.arrRef spec1 w)) := by
  fin_cases w <;> rfl

theorem arr1_out (c : Dev nD) : (dat1 V c).arrAt 3 cfg1.N = leave V c := by
  refine (dat1 V c).arrAt_eq_of_after_last 3 (⟨0, by decide +kernel⟩ : Fin cfg1.N) (by decide +kernel) _ fun j => ?_
  blk_simp
  rfl

theorem arr1_end (c : Dev nD) (w : Fin 4) : (dat1 V c).arrAt w cfg1.N = after1 V c (Proc.devRef .tc (Pipeline.arrRef spec1 w)) := by
  fin_cases w
  · exact ((dat1 V c).arrAt_in 0 rfl _).trans (Function.update_of_ne (by decide : Proc.devRef (τ := τ) .tc main_v16 ≠ Proc.devRef .tc main_v19) _ _).symm
  · exact ((dat1 V c).arrAt_in 1 rfl _).trans (Function.update_of_ne (by decide : Proc.devRef (τ := τ) .tc main_v17 ≠ Proc.devRef .tc main_v19) _ _).symm
  · exact ((dat1 V c).arrAt_in 2 rfl _).trans (Function.update_of_ne (by decide : Proc.devRef (τ := τ) .tc main_v18 ≠ Proc.devRef .tc main_v19) _ _).symm
  · exact (arr1_out V c).trans (Function.update_self (Proc.devRef (τ := τ) .tc main_v19) (leave V c) (V c)).symm

/-- The two regions' data, the first region's left open. -/
abbrev both (a : (p : Fin 2) → (pcfgs (F := F) p).Adm) (d₀ : (c : Dev nD) → Dat τ (Elt F) Unit ℕ UU ℕ (Pipeline.pin (pcfgs (F := F)) a 0) c) :
    (p : Fin 2) → (c : Dev nD) → Dat τ (Elt F) Unit ℕ UU ℕ (Pipeline.pin (pcfgs (F := F)) a p) c
  | ⟨0, _⟩ => d₀
  | ⟨1, _⟩ => dat1 V

theorem lv_stage1 : ∀ (w : Fin 4) (s : Fin (win1 w).nbuf), roleOf (.dma ((win1 w).sem s)) = none := by decide

theorem out1_mem : Proc.devRef .tc main_v19 ∈ Pipeline.arrRefs (τ := τ) spec1 := by decide

/-- The unscoped buffers that are none of the region's arrays. -/
abbrev rest1 : Finset (DevRef τ sig) := Pipeline.ucRefs τ sig \ Pipeline.arrRefs (τ := τ) (pcfgs (F := F) 1).spec

theorem open_phi (c : Dev nD) : iprop(Pipeline.scopedRest (Ix := Unit) (Name := ℕ) (U := UU) (Lvl := ℕ) (Val := Elt F) spec1 c ∗ (∃ r, prngReg c r)
    ∗ StableHlo.held (c.tc : Thread nD τ) ∅ (V c) ∗ talking (enter V) c) ⊢ ((dat1 V c).Φ 0 : sProp 𝕄) := by
  rw [phi1_first V c 0 rfl]
  iintro ⟨Hs, Hp, -, Ht⟩
  isplitl [Ht]; · iexact Ht
  isplitl [Hs] <;> iassumption

theorem close_phi (c : Dev nD) : ((dat1 V c).Φ (Fin.last cfg1.N) : sProp 𝕄)
    ⊢ iprop(Pipeline.scopedRest (Ix := Unit) (Name := ℕ) (U := UU) (Lvl := ℕ) (Val := Elt F) spec1 c ∗ (∃ r, prngReg c r)
    ∗ StableHlo.held (c.tc : Thread nD τ) ∅ (after1 V c) ∗ Pipeline.ownSems0 own1 c ∗ semVal (cell c .bar) 0) := by
  rw [phi1_last V c (Fin.last cfg1.N) (by rw [Fin.val_last, show cfg1.N = 1 from N_1]; decide), ownSems1_eq]
  iintro ⟨Hb, Hsh, Hs, Hp⟩
  isplitl [Hs]; · iexact Hs
  isplitl [Hp]; · iexact Hp
  isplitr
  · unfold StableHlo.held; rw [BI.bigSep_empty]; iempintro
  isplitl [Hsh] <;> iassumption

set_option backward.isDefEq.respectTransparency.types false in
/-- The combining region: entered owing everything, left owing nothing. -/
def record1 (a : (p : Fin 2) → (pcfgs (F := F) p).Adm) (d₀ : (c : Dev nD) → Dat τ (Elt F) Unit ℕ UU ℕ (Pipeline.pin (pcfgs (F := F)) a 0) c) :
    Pipeline.RegionSeg (pcfgs (F := F)) a (both V a d₀) () defs₀ 𝒱₀ L lv 1 :=
  Pipeline.RegionSeg.ofTalk (pcfgs (F := F)) a (both V a d₀) () defs₀ 𝒱₀ L lv 1 own1 ownFacts1
    ∅ (rest1 (F := F)) (Finset.empty_subset _) launch1 rfl (fun c => (body1 V c).loose)
    (fun _ => 0) owedAll (fun c => (owed1_first V c 0 rfl).trans (zero_add _).symm)
    (fun c => owed1_last V c (Fin.last cfg1.N) (by rw [Fin.val_last, show cfg1.N = 1 from N_1]; decide)) (fun _ => rfl)
    (fun _ w => by revert w; intro w; match w with | (0 : Fin 4) => rfl | (1 : Fin 4) => rfl | (2 : Fin 4) => rfl | (3 : Fin 4) => rfl)
    V (after1 V)
    (fun c b hb => Function.update_of_ne (fun h => by
      subst h
      exact (Finset.mem_sdiff.mp (Finset.mem_sdiff.mp hb).1).2 out1_mem) _ _)
    (talk (enter V)) (fun c => semVal (cell c .bar) 0) (talking (enter V)) (fun c => semVal (cell c .bar) 0)
    (talk_open (enter V)) (open_phi V) (close_phi V)
    (fun c => by iintro H; imodintro; iexact H)
    (fun _ => 0)
    ⟨fun c w s => by rw [L_tc]; exact Finset.mem_singleton_self _,
      fun c w s => le_of_eq (congrArg lvRole (lv_stage1 w s)),
      fun c t g i h => by
        have h : 0 < (if t.val = 0 then owedAll c else 0) g i := h
        split at h
        · obtain ⟨h1, h2⟩ := aboveAll c g i h
          exact ⟨by unfold L; rw [if_pos h1]; exact Finset.mem_singleton_self _, h2⟩
        · exact absurd h (Nat.lt_irrefl 0)⟩
    (fun _ => iprop(emp)) (arr1_in V) (arr1_end V)

end Cert.KernelIdeal.Comb

end
-- ==== Proof.KernelIdeal.Region0.lean ====
/-
  The first kernel region: every device's chunk of keys and values, four batches a grid point, its proof data, and what it leaves.
-/
module

public import proofs.«01_k».proof.Proof.KernelIdeal.Batch
public import proofs.«01_k».proof.Proof.KernelIdeal.Region1
public import Idealize.ShloMosaic.Lib.Pipeline.Covers
public import Idealize.ShloMosaic.Lib.Pipeline.RegionArraysTS

@[expose] public section

noncomputable section

namespace Cert.KernelIdeal.Comb

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ UU ℕ

/-! ## The chunk a table names -/

/-- The word a table's contents hold. -/
def word (pf : pre0.Contents (Elt F)) : ℕ := (pf.at 0 (Rect.unit (s := S1) ![0] S1.size inb_S1_S1_0) numel1_S1 : BitVec 32).toNat

theorem ix_one (pf : pre0.Contents (Elt F)) (i : grid0.Coords) : ix0 pf 1 i = ![(i 0).val, 0, 0, word pf] := by
  have h : (i 0).val < 4 := (i 0).isLt
  funext d
  match d with
  | (0 : Fin 4) => show (BitVec.ofNat 32 (i 0).val).toNat = (i 0).val; rw [BitVec.toNat_ofNat]; omega
  | (1 : Fin 4) => rfl
  | (2 : Fin 4) => rfl
  | (3 : Fin 4) => rfl
theorem ix_two (pf : pre0.Contents (Elt F)) (i : grid0.Coords) : ix0 pf 2 i = ![(i 0).val, 0, 0, word pf] := by
  have h : (i 0).val < 4 := (i 0).isLt
  funext d
  match d with
  | (0 : Fin 4) => show (BitVec.ofNat 32 (i 0).val).toNat = (i 0).val; rw [BitVec.toNat_ofNat]; omega
  | (1 : Fin 4) => rfl
  | (2 : Fin 4) => rfl
  | (3 : Fin 4) => rfl

/-- A table naming one of the four chunks is admissible, -/
theorem ok_of_lt (pf : pre0.Contents (Elt F)) (h : word pf < 4) : ok0 pf := by
  have hb (i : grid0.Coords) : ∀ d, ((![(i 0).val, 0, 0, word pf] : Fin 4 → ℕ) d + 1) * S4x16x64x256.size d ≤ S16x16x64x1024.size d := fun d => by
    have h' : (i 0).val < 4 := (i 0).isLt
    match d with
    | (0 : Fin 4) => show ((i 0).val + 1) * 4 ≤ 16; omega
    | (1 : Fin 4) => show (0 + 1) * 16 ≤ 16; omega
    | (2 : Fin 4) => show (0 + 1) * 64 ≤ 64; omega
    | (3 : Fin 4) => show (word pf + 1) * 256 ≤ 1024; omega
  exact ⟨fun i => ⟨fun d => by have := hb i d; rw [← ix_one pf i] at this; exact this, Or.inl rfl⟩,
    fun i => ⟨fun d => by have := hb i d; rw [← ix_two pf i] at this; exact this, Or.inl rfl⟩⟩
/-- and no other is. -/
theorem lt_of_ok (pf : pre0.Contents (Elt F)) (h : ok0 pf) : word pf < 4 := by
  obtain ⟨h, -⟩ := h.1 (fun _ => ⟨0, by decide +revert⟩)
  have h := h 3
  change (word pf + 1) * 256 ≤ 1024 at h
  omega

/-- The chunk an admissible table names. -/
def chunk (a : (p : Fin 2) → (pcfgs (F := F) p).Adm) : Fin 4 := ⟨word (a 0).1, lt_of_ok _ (a 0).2⟩

/-! ## Batches and blocks -/

/-- The query of batch `b`. -/
def qAt (x : FVec F S16x1x1024 .f32) (b : Fin 16) : Vec F S1x1x1024 .f32 := fun y => x (ix3 16 1 1024 b 0 (y 2))
/-- Chunk `j` of the keys or values of batch `b`. -/
def kAt (x : FVec F S16x16x64x1024 .f32) (j : Fin 4) (b : Fin 16) : Vec F S1x16x64x256 .f32 :=
  fun y => x (ix4 16 16 64 1024 b (y 1) (y 2) ⟨256 * j.val + (y 3).val, by have h : (y 3).val < 256 := (y 3).isLt; have := j.isLt; omega⟩)

/-- The batch of point `t` at place `g` of its block. -/
def batchAt (t : Fin 4) (g : Fin 4) : Fin 16 := ⟨4 * t.val + g.val, by omega⟩
/-- The query block of point `t`. -/
def qBlock (x : FVec F S16x1x1024 .f32) (t : Fin 4) : Vec F S4x1x1024 .f32 := fun y => x (ix3 16 1 1024 (batchAt t (y 0)) 0 (y 2))
/-- The key or value block of point `t`. -/
def kBlock (x : FVec F S16x16x64x1024 .f32) (j t : Fin 4) : Vec F S4x16x64x256 .f32 :=
  fun y => x (ix4 16 16 64 1024 (batchAt t (y 0)) (y 1) (y 2) ⟨256 * j.val + (y 3).val, by have h : (y 3).val < 256 := (y 3).isLt; have := j.isLt; omega⟩)

theorem slab_qBlock (x : FVec F S16x1x1024 .f32) (t g : Fin 4) : slab g (qBlock x t) = qAt x (batchAt t g) := by
  funext y
  refine congrArg x (funext fun d => Fin.ext ?_)
  match d with
  | (0 : Fin 3) => show 4 * t.val + (g.val + 1 * (y 0).val) = 4 * t.val + g.val; have h : (y 0).val < 1 := (y 0).isLt; omega
  | (1 : Fin 3) => rfl
  | (2 : Fin 3) => show 0 + 1 * (y 2).val = (y 2).val; omega
theorem slab_kBlock (x : FVec F S16x16x64x1024 .f32) (j t g : Fin 4) : slabV g (kBlock x j t) = kAt x j (batchAt t g) := by
  funext y
  refine congrArg x (funext fun d => Fin.ext ?_)
  match d with
  | (0 : Fin 4) => show 4 * t.val + (g.val + 1 * (y 0).val) = 4 * t.val + g.val; have h : (y 0).val < 1 := (y 0).isLt; omega
  | (1 : Fin 4) => show 0 + 1 * (y 1).val = (y 1).val; omega
  | (2 : Fin 4) => show 0 + 1 * (y 2).val = (y 2).val; omega
  | (3 : Fin 4) => show 256 * j.val + (0 + 1 * (y 3).val) = 256 * j.val + (y 3).val; omega

/-- The scores of batch `b`, on chunk `j`. -/
def scAt (q : FVec F S16x1x1024 .f32) (k : FVec F S16x16x64x1024 .f32) (j : Fin 4) (b : Fin 16) : FVec F S16x256 .f32 := scores (qAt q b) (kAt k j b)
/-- What the region computes of chunk `j`: numerators, maxima and denominators of all the batches. -/
def partO (q : FVec F S16x1x1024 .f32) (k v : FVec F S16x16x64x1024 .f32) (j : Fin 4) : FVec F S16x1x1024 .f32 :=
  fun y => outO (scAt q k j (y 0)) (kAt v j (y 0)) (ix3 1 1 1024 0 (y 1) (y 2))
def partM (q : FVec F S16x1x1024 .f32) (k : FVec F S16x16x64x1024 .f32) (j : Fin 4) : FVec F S16x16x1 .f32 :=
  fun y => outM (scAt q k j (y 0)) (ix3 1 16 1 0 (y 1) (y 2))
def partL (q : FVec F S16x1x1024 .f32) (k : FVec F S16x16x64x1024 .f32) (j : Fin 4) : FVec F S16x16x1 .f32 :=
  fun y => outL (scAt q k j (y 0)) (ix3 1 16 1 0 (y 1) (y 2))

theorem blkO_eq (q : FVec F S16x1x1024 .f32) (k v : FVec F S16x16x64x1024 .f32) (j t : Fin 4) :
    blkO (qBlock q t) (kBlock k j t) (kBlock v j t) = fun y => partO q k v j (ix3 16 1 1024 (batchAt t (y 0)) (y 1) (y 2)) := by
  have e : (fun g => outO (sc (qBlock q t) (kBlock k j t) g) (slabV g (kBlock v j t))) = fun g => outO (scAt q k j (batchAt t g)) (kAt v j (batchAt t g)) := by
    funext g; unfold sc scAt; rw [slab_qBlock, slab_kBlock, slab_kBlock]
  unfold blkO; rw [e]; rfl
theorem blkM_eq (q : FVec F S16x1x1024 .f32) (k : FVec F S16x16x64x1024 .f32) (j t : Fin 4) :
    blkM (qBlock q t) (kBlock k j t) = fun y => partM q k j (ix3 16 16 1 (batchAt t (y 0)) (y 1) (y 2)) := by
  have e : (fun g => outM (sc (qBlock q t) (kBlock k j t) g)) = fun g => outM (scAt q k j (batchAt t g)) := by
    funext g; unfold sc scAt; rw [slab_qBlock, slab_kBlock]
  unfold blkM; rw [e]; rfl
theorem blkL_eq (q : FVec F S16x1x1024 .f32) (k : FVec F S16x16x64x1024 .f32) (j t : Fin 4) :
    blkL (qBlock q t) (kBlock k j t) = fun y => partL q k j (ix3 16 16 1 (batchAt t (y 0)) (y 1) (y 2)) := by
  have e : (fun g => outL (sc (qBlock q t) (kBlock k j t) g)) = fun g => outL (scAt q k j (batchAt t g)) := by
    funext g; unfold sc scAt; rw [slab_qBlock, slab_kBlock]
  unfold blkL; rw [e]; rfl

/-! ## The proof data -/

variable (a : (p : Fin 2) → (pcfgs (F := F) p).Adm) (W : Dev nD → Valuation τ sig (Elt F))

/-- The grid point of a step. -/
abbrev pt (t : Fin (cfg0 (F := F) (a 0)).N) : Fin 4 := Fin.cast N_0 t

/-- Every point reads its blocks, writes its three result blocks, and owes throughout all the device owes the exchange. -/
def dat0 (c : Dev nD) : Dat τ (Elt F) Unit ℕ UU ℕ (Pipeline.pin (pcfgs (F := F)) a 0) c where
  A := fun | (0 : Fin 6) => W c main_v3 | (1 : Fin 6) => W c main_v1 | (2 : Fin 6) => W c main_v2 | (3 : Fin 6) => W c main_v15_0 | (4 : Fin 6) => W c main_v15_1 | (5 : Fin 6) => W c main_v15_2
  after := fun
    | (0 : Fin 6), t => qBlock (W c main_v3) (pt a t)
    | (1 : Fin 6), t => kBlock (W c main_v1) (chunk a) (pt a t)
    | (2 : Fin 6), t => kBlock (W c main_v2) (chunk a) (pt a t)
    | (3 : Fin 6), t => blkO (qBlock (W c main_v3) (pt a t)) (kBlock (W c main_v1) (chunk a) (pt a t)) (kBlock (W c main_v2) (chunk a) (pt a t))
    | (4 : Fin 6), t => blkM (qBlock (W c main_v3) (pt a t)) (kBlock (W c main_v1) (chunk a) (pt a t))
    | (5 : Fin 6), t => blkL (qBlock (W c main_v3) (pt a t)) (kBlock (W c main_v1) (chunk a) (pt a t))
  Φ _ := iprop(Pipeline.scopedRest spec0 c ∗ Pipeline.tablesAt (pcfgs (F := F)) a 0 c)
  q _ := fullShare
  owed _ := owedAll c

theorem coord_pt : ∀ t : Fin grid0.N, (grid0.coords t 0).val = t.val := by decide +kernel

theorem at0_0 (t : Fin (cfg0 (F := F) (a 0)).N) : (win0 (a 0) 0).index t = ![t.val, 0, 0] := by
  have h : ∀ t : Fin grid0.N, cc0_transform_0 (grid0.coords t) = ![t.val, 0, 0] := by decide +kernel
  exact h t
theorem at0_1 (t : Fin (cfg0 (F := F) (a 0)).N) : (win0 (a 0) 1).index t = ![t.val, 0, 0, (chunk a).val] :=
  (ix_one (a 0).1 (grid0.coords t)).trans (by rw [coord_pt]; rfl)
theorem at0_2 (t : Fin (cfg0 (F := F) (a 0)).N) : (win0 (a 0) 2).index t = ![t.val, 0, 0, (chunk a).val] :=
  (ix_two (a 0).1 (grid0.coords t)).trans (by rw [coord_pt]; rfl)
theorem at0_3 (t : Fin (cfg0 (F := F) (a 0)).N) : (win0 (a 0) 3).index t = ![t.val, 0, 0] := by
  have h : ∀ t : Fin grid0.N, cc0_transform_3 (grid0.coords t) = ![t.val, 0, 0] := by decide +kernel
  exact h t
theorem at0_4 (t : Fin (cfg0 (F := F) (a 0)).N) : (win0 (a 0) 4).index t = ![t.val, 0, 0] := by
  have h : ∀ t : Fin grid0.N, cc0_transform_4 (grid0.coords t) = ![t.val, 0, 0] := by decide +kernel
  exact h t
theorem at0_5 (t : Fin (cfg0 (F := F) (a 0)).N) : (win0 (a 0) 5).index t = ![t.val, 0, 0] := by
  have h : ∀ t : Fin grid0.N, cc0_transform_5 (grid0.coords t) = ![t.val, 0, 0] := by decide +kernel
  exact h t

/-- The blocks the inputs' windows cut are the ones named. -/
theorem block0_0 (c : Dev nD) (t : Fin (cfg0 (F := F) (a 0)).N) : (dat0 a W c).blockOf (0 : Fin 6) t = qBlock (W c main_v3) (pt a t) := by
  funext y; blk_simp
  show W c main_v3 _ = W c main_v3 _
  have e := at0_0 a t
  have e0 : (win0 (a 0) 0).index t 0 = t.val := congrFun e 0
  have e1 : (win0 (a 0) 0).index t 1 = 0 := congrFun e 1
  have e2 : (win0 (a 0) 0).index t 2 = 0 := congrFun e 2
  congr 1; blk_ext []
  · show (win0 (a 0) 0).index t 0 * 4 + (y 0).val = 4 * t.val + (y 0).val; omega
  · show (win0 (a 0) 0).index t 2 * 1024 + (y 2).val = (y 2).val; omega
theorem block0_1 (c : Dev nD) (t : Fin (cfg0 (F := F) (a 0)).N) : (dat0 a W c).blockOf (1 : Fin 6) t = kBlock (W c main_v1) (chunk a) (pt a t) := by
  funext y; blk_simp
  show W c main_v1 _ = W c main_v1 _
  have e := at0_1 a t
  have e0 : (win0 (a 0) 1).index t 0 = t.val := congrFun e 0
  have e1 : (win0 (a 0) 1).index t 1 = 0 := congrFun e 1
  have e2 : (win0 (a 0) 1).index t 2 = 0 := congrFun e 2
  have e3 : (win0 (a 0) 1).index t 3 = (chunk a).val := congrFun e 3
  congr 1; blk_ext []
  · show (win0 (a 0) 1).index t 0 * 4 + (y 0).val = 4 * t.val + (y 0).val; omega
  · show (win0 (a 0) 1).index t 1 * 16 + (y 1).val = (y 1).val; omega
  · show (win0 (a 0) 1).index t 2 * 64 + (y 2).val = (y 2).val; omega
  · show (win0 (a 0) 1).index t 3 * 256 + (y 3).val = 256 * (chunk a).val + (y 3).val; omega
theorem block0_2 (c : Dev nD) (t : Fin (cfg0 (F := F) (a 0)).N) : (dat0 a W c).blockOf (2 : Fin 6) t = kBlock (W c main_v2) (chunk a) (pt a t) := by
  funext y; blk_simp
  show W c main_v2 _ = W c main_v2 _
  have e := at0_2 a t
  have e0 : (win0 (a 0) 2).index t 0 = t.val := congrFun e 0
  have e1 : (win0 (a 0) 2).index t 1 = 0 := congrFun e 1
  have e2 : (win0 (a 0) 2).index t 2 = 0 := congrFun e 2
  have e3 : (win0 (a 0) 2).index t 3 = (chunk a).val := congrFun e 3
  congr 1; blk_ext []
  · show (win0 (a 0) 2).index t 0 * 4 + (y 0).val = 4 * t.val + (y 0).val; omega
  · show (win0 (a 0) 2).index t 1 * 16 + (y 1).val = (y 1).val; omega
  · show (win0 (a 0) 2).index t 2 * 64 + (y 2).val = (y 2).val; omega
  · show (win0 (a 0) 2).index t 3 * 256 + (y 3).val = 256 * (chunk a).val + (y 3).val; omega

/-- The body finds each input's block in its staging buffer, fetched at this point or kept from the one before. -/
theorem before0_0 (c : Dev nD) (t : Fin (cfg0 (F := F) (a 0)).N) (d) : (dat0 a W c).before (0 : Fin 6) t d = qBlock (W c main_v3) (pt a t) :=
  ((dat0 a W c).before_in_eq_fetched (0 : Fin 6) rfl (fun _ => rfl) (fun _ _ _ => rfl) (fun t => (block0_0 a W c t).symm) t d).trans (block0_0 a W c t)
theorem before0_1 (c : Dev nD) (t : Fin (cfg0 (F := F) (a 0)).N) (d) : (dat0 a W c).before (1 : Fin 6) t d = kBlock (W c main_v1) (chunk a) (pt a t) :=
  ((dat0 a W c).before_in_eq_fetched (1 : Fin 6) rfl (fun _ => rfl) (fun _ _ _ => rfl) (fun t => (block0_1 a W c t).symm) t d).trans (block0_1 a W c t)
theorem before0_2 (c : Dev nD) (t : Fin (cfg0 (F := F) (a 0)).N) (d) : (dat0 a W c).before (2 : Fin 6) t d = kBlock (W c main_v2) (chunk a) (pt a t) :=
  ((dat0 a W c).before_in_eq_fetched (2 : Fin 6) rfl (fun _ => rfl) (fun _ _ _ => rfl) (fun t => (block0_2 a W c t).symm) t d).trans (block0_2 a W c t)

/-! ## The body -/

abbrev stg (w : Fin 6) (t : Fin (cfg0 (F := F) (a 0)).N) := (win0 (a 0) w).stage ((cfg0 (a 0)).slots t w)

/-- The body at a point, on the buffers staged for it. -/
abbrev bodyAt0 (t : Fin (cfg0 (F := F) (a 0)).N) : Prog (TpuEff nD τ sig (Elt F) Λ₀ .tc) PUnit :=
  cc0__compute_body (grid0.coords t) (Memref.whole main_v14) (Memref.isWhole_whole _) (stg a 0 t) (stage_whole0 0 _) (stg a 1 t) (stage_whole0 1 _)
    (stg a 2 t) (stage_whole0 2 _) (stg a 3 t) (stage_whole0 3 _) (stg a 4 t) (stage_whole0 4 _) (stg a 5 t) (stage_whole0 5 _)

theorem body0 (c : Dev nD) : BodyObligation (dat0 a W c) defs₀ 𝒱₀ () Set.univ := fun t => by
  rw [bigSep_W0, bigSep_W0]
  show iprop(_ ∗ _ ∗ (∃ d, owns (c : Thread nD τ) (stg a 0 t) fullShare ((dat0 a W c).before (0 : Fin 6) t d))
      ∗ (∃ d, owns (c : Thread nD τ) (stg a 1 t) fullShare ((dat0 a W c).before (1 : Fin 6) t d))
      ∗ (∃ d, owns (c : Thread nD τ) (stg a 2 t) fullShare ((dat0 a W c).before (2 : Fin 6) t d))
      ∗ (∃ d, owns (c : Thread nD τ) (stg a 3 t) fullShare ((dat0 a W c).before (3 : Fin 6) t d))
      ∗ (∃ d, owns (c : Thread nD τ) (stg a 4 t) fullShare ((dat0 a W c).before (4 : Fin 6) t d))
      ∗ (∃ d, owns (c : Thread nD τ) (stg a 5 t) fullShare ((dat0 a W c).before (5 : Fin 6) t d)))
    ⊢ run c (bodyAt0 a t) fun _ => iprop((dat0 a W c).Φ t.castSucc ∗ (dat0 a W c).owesAt () t.succ
      ∗ owns (c : Thread nD τ) (stg a 0 t) fullShare (qBlock (W c main_v3) (pt a t))
      ∗ owns (c : Thread nD τ) (stg a 1 t) fullShare (kBlock (W c main_v1) (chunk a) (pt a t))
      ∗ owns (c : Thread nD τ) (stg a 2 t) fullShare (kBlock (W c main_v2) (chunk a) (pt a t))
      ∗ owns (c : Thread nD τ) (stg a 3 t) fullShare (blkO (qBlock (W c main_v3) (pt a t)) (kBlock (W c main_v1) (chunk a) (pt a t)) (kBlock (W c main_v2) (chunk a) (pt a t)))
      ∗ owns (c : Thread nD τ) (stg a 4 t) fullShare (blkM (qBlock (W c main_v3) (pt a t)) (kBlock (W c main_v1) (chunk a) (pt a t)))
      ∗ owns (c : Thread nD τ) (stg a 5 t) fullShare (blkL (qBlock (W c main_v3) (pt a t)) (kBlock (W c main_v1) (chunk a) (pt a t))))
  iintro ⟨HΦ, HO, ⟨%d0, H0⟩, ⟨%d1, H1⟩, ⟨%d2, H2⟩, ⟨%d3, H3⟩, ⟨%d4, H4⟩, ⟨%d5, H5⟩⟩
  rw [before0_0, before0_1, before0_2]
  iapply (point_run c (stg a 0 t) (stg a 1 t) (stg a 2 t) (stg a 3 t) (stg a 4 t) (stg a 5 t) _ _ _ (grid0.coords t) _ _ _ _ _ _ _ _
    ((dat0 a W c).before (3 : Fin 6) t d3) ((dat0 a W c).before (4 : Fin 6) t d4) ((dat0 a W c).before (5 : Fin 6) t d5) _)
  isplitl [H0]; · iexact H0
  isplitl [H1]; · iexact H1
  isplitl [H2]; · iexact H2
  isplitl [H3]; · iexact H3
  isplitl [H4]; · iexact H4
  isplitl [H5]; · iexact H5
  iintro H
  isplitl [HΦ]; · iexact HΦ
  isplitl [HO]
  · iapply (owesAt_of (dat0 a W c) t.succ (owedAll c) rfl rfl)
    iapply (of_owesAt (dat0 a W c) t.castSucc (owedAll c) rfl)
    iexact HO
  iexact H

/-! ## What the region leaves -/

theorem cov0_3 : (win0 (F := F) (a 0) 3).Covers := Pipeline.Window.covers_of_indexMap_surj _ rfl
    (fun d => by
      match d with
      | (0 : Fin 3) => exact (by decide : 0 < 4)
      | (1 : Fin 3) => exact (by decide : 0 < 1)
      | (2 : Fin 3) => exact (by decide : 0 < 1024)) fun β => by
  have h : ∀ n : Fin 4, ∃ i : grid0.Coords, cc0_transform_3 i = ![n.val, 0, 0] := by decide +kernel
  have b0 : (β 0).val < (16 + 4 - 1) / 4 := (β 0).isLt
  have b1 : (β 1).val < (1 + 1 - 1) / 1 := (β 1).isLt
  have b2 : (β 2).val < (1024 + 1024 - 1) / 1024 := (β 2).isLt
  obtain ⟨i, hi⟩ := h ⟨(β 0).val, by omega⟩
  refine ⟨i, fun d => ?_⟩
  show cc0_transform_3 i d = _
  rw [hi]
  match d with
  | (0 : Fin 3) => rfl
  | (1 : Fin 3) => show 0 = (β 1).val; omega
  | (2 : Fin 3) => show 0 = (β 2).val; omega
theorem cov0_4 : (win0 (F := F) (a 0) 4).Covers := Pipeline.Window.covers_of_indexMap_surj _ rfl
    (fun d => by
      match d with
      | (0 : Fin 3) => exact (by decide : 0 < 4)
      | (1 : Fin 3) => exact (by decide : 0 < 16)
      | (2 : Fin 3) => exact (by decide : 0 < 1)) fun β => by
  have h : ∀ n : Fin 4, ∃ i : grid0.Coords, cc0_transform_4 i = ![n.val, 0, 0] := by decide +kernel
  have b0 : (β 0).val < (16 + 4 - 1) / 4 := (β 0).isLt
  have b1 : (β 1).val < (16 + 16 - 1) / 16 := (β 1).isLt
  have b2 : (β 2).val < (1 + 1 - 1) / 1 := (β 2).isLt
  obtain ⟨i, hi⟩ := h ⟨(β 0).val, by omega⟩
  refine ⟨i, fun d => ?_⟩
  show cc0_transform_4 i d = _
  rw [hi]
  match d with
  | (0 : Fin 3) => rfl
  | (1 : Fin 3) => show 0 = (β 1).val; omega
  | (2 : Fin 3) => show 0 = (β 2).val; omega
theorem cov0_5 : (win0 (F := F) (a 0) 5).Covers := Pipeline.Window.covers_of_indexMap_surj _ rfl
    (fun d => by
      match d with
      | (0 : Fin 3) => exact (by decide : 0 < 4)
      | (1 : Fin 3) => exact (by decide : 0 < 16)
      | (2 : Fin 3) => exact (by decide : 0 < 1)) fun β => by
  have h : ∀ n : Fin 4, ∃ i : grid0.Coords, cc0_transform_5 i = ![n.val, 0, 0] := by decide +kernel
  have b0 : (β 0).val < (16 + 4 - 1) / 4 := (β 0).isLt
  have b1 : (β 1).val < (16 + 16 - 1) / 16 := (β 1).isLt
  have b2 : (β 2).val < (1 + 1 - 1) / 1 := (β 2).isLt
  obtain ⟨i, hi⟩ := h ⟨(β 0).val, by omega⟩
  refine ⟨i, fun d => ?_⟩
  show cc0_transform_5 i d = _
  rw [hi]
  match d with
  | (0 : Fin 3) => rfl
  | (1 : Fin 3) => show 0 = (β 1).val; omega
  | (2 : Fin 3) => show 0 = (β 2).val; omega

theorem arr0_3 (c : Dev nD) : (dat0 a W c).arrAt (3 : Fin 6) (cfg0 (a 0)).N = partO (W c main_v3) (W c main_v1) (W c main_v2) (chunk a) := by
  refine (dat0 a W c).arrAt_eq_of_covers (3 : Fin 6) _ (cov0_3 a) fun t hf y => ?_
  have e := at0_3 a t
  have e0 : (win0 (a 0) 3).index t 0 = t.val := congrFun e 0
  have e1 : (win0 (a 0) 3).index t 1 = 0 := congrFun e 1
  have e2 : (win0 (a 0) 3).index t 2 = 0 := congrFun e 2
  blk_simp
  show blkO _ _ _ _ = _
  rw [blkO_eq]
  show partO _ _ _ _ _ = partO _ _ _ _ _
  refine congrArg _ (funext fun d => Fin.ext ?_)
  match d with
  | (0 : Fin 3) => show 4 * t.val + (y 0).val = (win0 (a 0) 3).index t 0 * 4 + 1 * (y 0).val; omega
  | (1 : Fin 3) => show (y 1).val = (win0 (a 0) 3).index t 1 * 1 + 1 * (y 1).val; omega
  | (2 : Fin 3) => show (y 2).val = (win0 (a 0) 3).index t 2 * 1024 + 1 * (y 2).val; omega
theorem arr0_4 (c : Dev nD) : (dat0 a W c).arrAt (4 : Fin 6) (cfg0 (a 0)).N = partM (W c main_v3) (W c main_v1) (chunk a) := by
  refine (dat0 a W c).arrAt_eq_of_covers (4 : Fin 6) _ (cov0_4 a) fun t hf y => ?_
  have e := at0_4 a t
  have e0 : (win0 (a 0) 4).index t 0 = t.val := congrFun e 0
  have e1 : (win0 (a 0) 4).index t 1 = 0 := congrFun e 1
  have e2 : (win0 (a 0) 4).index t 2 = 0 := congrFun e 2
  blk_simp
  show blkM _ _ _ = _
  rw [blkM_eq]
  show partM _ _ _ _ = partM _ _ _ _
  refine congrArg _ (funext fun d => Fin.ext ?_)
  match d with
  | (0 : Fin 3) => show 4 * t.val + (y 0).val = (win0 (a 0) 4).index t 0 * 4 + 1 * (y 0).val; omega
  | (1 : Fin 3) => show (y 1).val = (win0 (a 0) 4).index t 1 * 16 + 1 * (y 1).val; omega
  | (2 : Fin 3) => show (y 2).val = (win0 (a 0) 4).index t 2 * 1 + 1 * (y 2).val; omega
theorem arr0_5 (c : Dev nD) : (dat0 a W c).arrAt (5 : Fin 6) (cfg0 (a 0)).N = partL (W c main_v3) (W c main_v1) (chunk a) := by
  refine (dat0 a W c).arrAt_eq_of_covers (5 : Fin 6) _ (cov0_5 a) fun t hf y => ?_
  have e := at0_5 a t
  have e0 : (win0 (a 0) 5).index t 0 = t.val := congrFun e 0
  have e1 : (win0 (a 0) 5).index t 1 = 0 := congrFun e 1
  have e2 : (win0 (a 0) 5).index t 2 = 0 := congrFun e 2
  blk_simp
  show blkL _ _ _ = _
  rw [blkL_eq]
  show partL _ _ _ _ = partL _ _ _ _
  refine congrArg _ (funext fun d => Fin.ext ?_)
  match d with
  | (0 : Fin 3) => show 4 * t.val + (y 0).val = (win0 (a 0) 5).index t 0 * 4 + 1 * (y 0).val; omega
  | (1 : Fin 3) => show (y 1).val = (win0 (a 0) 5).index t 1 * 16 + 1 * (y 1).val; omega
  | (2 : Fin 3) => show (y 2).val = (win0 (a 0) 5).index t 2 * 1 + 1 * (y 2).val; omega

/-- What the region leaves: its three results, everything else as it was. -/
def after0 (c : Dev nD) : Valuation τ sig (Elt F) := Pipeline.afterRegion (dat0 a W c) (W c)

theorem after0_o (c : Dev nD) : after0 a W c main_v15_0 = partO (W c main_v3) (W c main_v1) (W c main_v2) (chunk a) :=
  (Pipeline.afterRegion_arr (dat0 a W c) (W c) (launch0 (F := F)).win.arr_inj (3 : Fin 6)).trans (arr0_3 a W c)
theorem after0_m (c : Dev nD) : after0 a W c main_v15_1 = partM (W c main_v3) (W c main_v1) (chunk a) :=
  (Pipeline.afterRegion_arr (dat0 a W c) (W c) (launch0 (F := F)).win.arr_inj (4 : Fin 6)).trans (arr0_4 a W c)
theorem after0_l (c : Dev nD) : after0 a W c main_v15_2 = partL (W c main_v3) (W c main_v1) (chunk a) :=
  (Pipeline.afterRegion_arr (dat0 a W c) (W c) (launch0 (F := F)).win.arr_inj (5 : Fin 6)).trans (arr0_5 a W c)
theorem after0_of (c : Dev nD) {b : Ref sig .tc} (hb : ∀ w, b ≠ Pipeline.arrRef spec0 w) : after0 a W c (Proc.devRef .tc b) = W c (Proc.devRef .tc b) :=
  Pipeline.afterRegion_of_not_arr (dat0 a W c) (W c) hb

/-! ## The record -/

theorem lv_stage0 : ∀ (w : Fin 6) (s : Fin (spec0 w).nbuf), roleOf (.dma ((spec0 w).sem s)) = none := by decide

theorem arr0_in (c : Dev nD) (w : Fin 6) : (dat0 a W c).arrAt w 0 = W c (Proc.devRef .tc (Pipeline.arrRef spec0 w)) := by
  fin_cases w <;> rfl

variable (V : Dev nD → Valuation τ sig (Elt F)) (R : Dev nD → sProp 𝕄)

theorem enter0 (c : Dev nD) : iprop(iprop(Pipeline.scopedRest (Pipeline.pin (pcfgs (F := F)) a 0).spec c ∗ emp) ∗ Pipeline.tablesAt (pcfgs (F := F)) a 0 c)
    ⊢ ((dat0 a W c).Φ 0 : sProp 𝕄) := by
  show _ ⊢ iprop(Pipeline.scopedRest spec0 c ∗ Pipeline.tablesAt (pcfgs (F := F)) a 0 c)
  iintro ⟨⟨H, -⟩, Ht⟩
  isplitl [H] <;> iassumption
theorem exit0 (c : Dev nD) : ((dat0 a W c).Φ (Fin.last (Pipeline.pin (pcfgs (F := F)) a 0).N) : sProp 𝕄)
    ⊢ iprop(iprop(Pipeline.scopedRest (Pipeline.pin (pcfgs (F := F)) a 0).spec c ∗ emp) ∗ Pipeline.tablesAt (pcfgs (F := F)) a 0 c) := by
  show iprop(Pipeline.scopedRest spec0 c ∗ Pipeline.tablesAt (pcfgs (F := F)) a 0 c) ⊢ _
  iintro ⟨H, Ht⟩
  isplitl [H]
  · isplitl [H]; · iexact H
    iempintro
  iexact Ht
theorem cut0 : Pipeline.LevelCut (Ix := Unit) (Lvl := ℕ) (nD := nD) (τ := τ) (pcfgs (F := F)) a () L lv 0 owedAll (fun _ => 0) where
  hι c w s := by rw [L_tc]; exact Finset.mem_singleton_self _
  hιb c w s := le_of_eq (congrArg lvRole (lv_stage0 w s))
  hD c g i h := by
    obtain ⟨h1, h2⟩ := aboveAll c g i h
    exact ⟨by unfold L; rw [if_pos h1]; exact Finset.mem_singleton_self _, h2⟩
theorem share0 (c : Dev nD) (w : Fin 6) : (dat0 a W c).share w = fullShare := by
  match w with
  | (0 : Fin 6) => rfl
  | (1 : Fin 6) => rfl
  | (2 : Fin 6) => rfl
  | (3 : Fin 6) => rfl
  | (4 : Fin 6) => rfl
  | (5 : Fin 6) => rfl

end Cert.KernelIdeal.Comb

end
-- ==== Proof.KernelIdeal.Record0.lean ====
/-
  The first kernel region: every device's chunk of keys and values, four batches a grid point, its proof data, and what it leaves.
-/
module

public import proofs.«01_k».proof.Proof.KernelIdeal.Region0
public import proofs.«01_k».proof.Proof.KernelIdeal.Region1
public import Idealize.ShloMosaic.Lib.Pipeline.Covers
public import Idealize.ShloMosaic.Lib.Pipeline.RegionArraysTS

@[expose] public section

noncomputable section

namespace Cert.KernelIdeal.Comb

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ UU ℕ

variable (a : (p : Fin 2) → (pcfgs (F := F) p).Adm) (W : Dev nD → Valuation τ sig (Elt F))
variable (V : Dev nD → Valuation τ sig (Elt F))

set_option backward.isDefEq.respectTransparency.types false in
def record0 (R : Dev nD → sProp 𝕄) (hT : ∀ c k, (a 0).1 k = W c (Proc.devRef .tc (pre0.ref k))) :
    Pipeline.RegionSeg (pcfgs (F := F)) a (both V a (dat0 a W)) () defs₀ 𝒱₀ L lv 0 :=
  Pipeline.RegionSeg.ofHeldInT (pcfgs (F := F)) a (both V a (dat0 a W)) () defs₀ 𝒱₀ L lv 0 owedAll (Pipeline.ucRefs τ sig)
    (fun _ => iprop(emp)) (fun _ => iprop(emp)) launch0 (fun c => (body0 a W c).loose) (fun _ _ => rfl) (fun _ => rfl)
    (fun c w => share0 a W c w) (enter0 a W) (exit0 a W) (fun _ => 0) (cut0 a) R W (arr0_in a W) hT

theorem arr0_sub : Pipeline.arrRefs (τ := τ) (pcfgs (F := F) 0).spec ⊆ Pipeline.ucRefs τ sig := Pipeline.arrRefs_sub_ucRefs _ launch0.win.arr_unscoped
theorem tbl0_sub : Pipeline.tblRefs (τ := τ) (pcfgs (F := F) 0).pre ⊆ Pipeline.ucRefs τ sig := Pipeline.tblRefs_sub_ucRefs _ launch0.pre.unscoped

set_option backward.isDefEq.respectTransparency.types false in
/-- The region is entered from the buffers at `W c`, everything owed; -/
theorem record0_pre (R : Dev nD → sProp 𝕄) (hT : ∀ c k, (a 0).1 k = W c (Proc.devRef .tc (pre0.ref k))) (c : Dev nD) :
    iprop(StableHlo.held (c.tc : Thread nD τ) (Pipeline.ucRefs τ sig) (W c) ∗ ((∃ Wd, owes (c : Thread nD τ) (owedAll c) Wd) ∗ emp ∗ R c))
      ⊢ (record0 a W V R hT).pre c := by
  unfold record0
  exact Pipeline.RegionSeg.ofHeldInT_pre (X := fun _ => iprop(emp)) (R := R) (W := W) (arr0_sub (F := F)) (tbl0_sub (F := F)) c

set_option backward.isDefEq.respectTransparency.types false in
/-- and left with them at what it computes. -/
theorem record0_post (R : Dev nD → sProp 𝕄) (hT : ∀ c k, (a 0).1 k = W c (Proc.devRef .tc (pre0.ref k))) (c : Dev nD) :
    (record0 a W V R hT).post c
      ⊢ iprop(StableHlo.held (c.tc : Thread nD τ) (Pipeline.ucRefs τ sig) (after0 a W c) ∗ ((∃ Wd, owes (c : Thread nD τ) (owedAll c) Wd) ∗ emp ∗ R c)) :=
  Pipeline.RegionSeg.ofHeldInT_post (arr0_sub (F := F)) (tbl0_sub (F := F)) c

end Cert.KernelIdeal.Comb

end
-- ==== Proof.KernelIdeal.Table.lean ====
/-
  What the first host stretch leaves: the transposed keys and values, the flattened query, and the number of the device's chunk.
-/
module

public import proofs.«01_k».proof.Proof.KernelIdeal.Record0

@[expose] public section

noncomputable section

namespace Cert.KernelIdeal.Comb

open Idealize.ShloMosaic Idealize.ShloMosaic.TcCoe
open Cert.KernelIdeal Cert.KernelIdeal.Gen

variable {F : FTy → Type} [FloatOps F]
variable (m : (ℓ : Loc nD τ sig) → Buf (Elt F) ℓ)

/-- The number of device `c`'s chunk among the four of its keys: twice its first coordinate, and its last. -/
def part (c : Dev nD) : Fin 4 := ⟨2 * (c.val / 4 % 2) + c.val % 2, by omega⟩

theorem V1_v1 (c : Dev nD) : V1 m c main_v1
    = (transpose S16x16x64x1024 [0, 2, 3, 1] (m ((c : Thread nD τ).loc main_arg1) : S16x1024x16x64.Idx → F .f32) transposes_S16x1024x16x64_S16x16x64x1024_0_2_3_1
      : S16x16x64x1024.Idx → F .f32) := by
  show StableHlo.after (hostOps0 c) (V0 m c) (Proc.devRef .tc main_v1) = _
  after_results

theorem V1_v2 (c : Dev nD) : V1 m c main_v2
    = (transpose S16x16x64x1024 [0, 2, 3, 1] (m ((c : Thread nD τ).loc main_arg2) : S16x1024x16x64.Idx → F .f32) transposes_S16x1024x16x64_S16x16x64x1024_0_2_3_1
      : S16x16x64x1024.Idx → F .f32) := by
  show StableHlo.after (hostOps0 c) (V0 m c) (Proc.devRef .tc main_v2) = _
  after_results

theorem V1_v3 (c : Dev nD) : V1 m c main_v3
    = (shapeCast S16x1x1024 (m ((c : Thread nD τ).loc main_arg0) : S16x1x16x64.Idx → F .f32) shapeCasts_S16x1x16x64_S16x1x1024 : S16x1x1024.Idx → F .f32) := by
  show StableHlo.after (hostOps0 c) (V0 m c) (Proc.devRef .tc main_v3) = _
  after_results
  rfl

theorem part_word : ∀ c : Dev nD, ((c.word / 4#32) % 2#32) * 2#32 + (c.word / 1#32) % 2#32 = BitVec.ofNat 32 (part c).val := by decide

theorem V1_v14 (c : Dev nD) : V1 m c main_v14 = (fun _ => BitVec.ofNat 32 (part c).val : S1.Idx → BitVec 32) := by
  show StableHlo.after (hostOps0 c) (V0 m c) (Proc.devRef .tc main_v14) = _
  after_results
  exact funext fun i => part_word c

/-- The table of device `c`'s first region. -/
def table (c : Dev nD) : pre0.Contents (Elt F) := fun k => V1 m c (Proc.devRef .tc (pre0.ref k))

theorem word_table (c : Dev nD) : word (table m c) = (part c).val := by
  have h : ((table m c).at 0 (Rect.unit (s := S1) ![0] S1.size inb_S1_S1_0) numel1_S1 : BitVec 32) = BitVec.ofNat 32 (part c).val := congrFun (V1_v14 m c) _
  unfold word
  rw [h, BitVec.toNat_ofNat]
  have := (part c).isLt
  omega

/-- The tables of device `c`'s two regions; the second has none. -/
def tabs (c : Dev nD) : (p : Fin 2) → (pcfgs (F := F) p).Adm :=
  fun | 0 => ⟨table m c, ok_of_lt _ (by rw [word_table]; exact (part c).isLt)⟩ | 1 => ⟨fun k => k.elim0, trivial⟩

theorem chunk_tabs (c : Dev nD) : chunk (tabs m c) = part c := Fin.ext (word_table m c)

end Cert.KernelIdeal.Comb
end
-- ==== Proof.KernelIdeal.Fund.lean ====
/-
  The launch of the protocol: every semaphore's schedule set up, and every right dealt to the device that uses it.
-/
module

public import proofs.«01_k».proof.Proof.KernelIdeal.Region1
public import Idealize.ShloMosaic.Lib.Quiescent

@[expose] public section

noncomputable section

namespace Cert.KernelIdeal.Comb

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ UU ℕ

/-! ## The cells and the rights -/

theorem own1_inj : Function.Injective own1 := by decide
theorem own1_ne_bar : ∀ k, own1 k ≠ Role.bar.sem := by decide

def barAt : Dev nD ↪ GSem nD τ sig := ⟨fun c => cell c .bar, fun _ _ h => congrArg (fun g : GSem nD τ sig => g.1.1) h⟩
def ownAt : Dev nD × ((_ : Fin 3) × Fin 4) ↪ GSem nD τ sig :=
  ⟨fun x => ((x.1 : Thread nD τ), own1 x.2), fun _ _ h => Prod.ext (congrArg (fun g : GSem nD τ sig => g.1.1) h) (own1_inj (congrArg Prod.snd h))⟩

/-- The barriers, live from the launch on, and the transfer semaphores, dormant until the region that has them. -/
abbrev liveCells : Finset (GSem nD τ sig) := Finset.univ.map barAt
abbrev dormantCells : Finset (GSem nD τ sig) := Finset.univ.map ownAt

theorem cells_disjoint : Disjoint (liveCells : Finset (GSem nD τ sig)) dormantCells := by
  rw [Finset.disjoint_left]
  rintro g h₁ h₂
  obtain ⟨c, -, rfl⟩ := Finset.mem_map.mp h₁
  obtain ⟨x, -, h⟩ := Finset.mem_map.mp h₂
  exact own1_ne_bar x.2 (congrArg Prod.snd h)

theorem own_mem (c : Dev nD) (k : (_ : Fin 3) × Fin 4) : ((c : Thread nD τ), own1 k) ∈ (liveCells ∪ dormantCells : Finset (GSem nD τ sig)) :=
  Finset.mem_union_right _ (Finset.mem_map_of_mem ownAt (Finset.mem_univ (c, k)))
theorem cell_mem (c : Dev nD) (ρ : Role) : cell c ρ ∈ (liveCells ∪ dormantCells : Finset (GSem nD τ sig)) := by
  cases ρ with
  | bar => exact Finset.mem_union_left _ (Finset.mem_map_of_mem barAt (Finset.mem_univ c))
  | sendO h => exact own_mem c ⟨h, 0⟩
  | recvO h => exact own_mem c ⟨h, 1⟩
  | sendL h => exact own_mem c ⟨h, 2⟩
  | recvL h => exact own_mem c ⟨h, 3⟩

/-- The five rights of exchange `h` that concern one device's semaphores: its barrier's unit of `h`, and its four transfers. -/
abbrev rightRole (h : Fin 3) : Fin 5 → Role
  | 0 => .bar | 1 => .sendO h | 2 => .recvO h | 3 => .sendL h | 4 => .recvL h
abbrev rightDuty (h : Fin 3) : Fin 5 → Fin 3
  | 0 => h | 1 => 0 | 2 => 0 | 3 => 0 | 4 => 0
theorem right_inj : Function.Injective fun x : Fin 3 × Fin 5 => (rightRole x.1 x.2, rightDuty x.1 x.2) := by decide

def rightAt : Dev nD × (Fin 3 × Fin 5) ↪ GSem nD τ sig × ℕ × Fin 3 :=
  ⟨fun x => (cell x.1 (rightRole x.2.1 x.2.2), 0, rightDuty x.2.1 x.2.2), fun _ _ h =>
    Prod.ext (congrArg (fun t : GSem nD τ sig × ℕ × Fin 3 => t.1.1.1) h)
      (right_inj (Prod.ext (sem_inj (congrArg (fun t : GSem nD τ sig × ℕ × Fin 3 => t.1.2) h)) (congrArg (fun t : GSem nD τ sig × ℕ × Fin 3 => t.2.2) h)))⟩
def rights : Finset (GSem nD τ sig × ℕ × Fin 3) := Finset.univ.map rightAt

theorem bigSep_fin4 (P : Fin 4 → sProp 𝕄) : bigSep Finset.univ P = iprop(P 0 ∗ P 1 ∗ P 2 ∗ P 3) := by
  rw [show (Finset.univ : Finset (Fin 4)) = insert 0 (insert 1 (insert 2 {3})) by decide, bigSep_insert (by decide), bigSep_insert (by decide),
    bigSep_insert (by decide), bigSep_singleton]
  rfl
theorem bigSep_fin5 (P : Fin 5 → sProp 𝕄) : bigSep Finset.univ P = iprop(P 0 ∗ P 1 ∗ P 2 ∗ P 3 ∗ P 4) := by
  rw [show (Finset.univ : Finset (Fin 5)) = insert 0 (insert 1 (insert 2 (insert 3 {4}))) by decide, bigSep_insert (by decide), bigSep_insert (by decide),
    bigSep_insert (by decide), bigSep_insert (by decide), bigSep_singleton]
  rfl

/-- The rights of exchange `h` at device `c`'s own semaphores. -/
def about (h : Fin 3) (c : Dev nD) : sProp 𝕄 :=
  iprop(dutyTok ER (cell c .bar) 0 h ∗ dutyTok ER (cell c (.sendO h)) 0 0 ∗ dutyTok ER (cell c (.recvO h)) 0 0 ∗ dutyTok ER (cell c (.sendL h)) 0 0
    ∗ dutyTok ER (cell c (.recvL h)) 0 0)
/-- The rights of exchange `h` that device `c` uses: those that concern a landing or a barrier are at its partner. -/
def uses (h : Fin 3) (c : Dev nD) : sProp 𝕄 :=
  iprop(dutyTok ER (cell (peer h c) .bar) 0 h ∗ dutyTok ER (cell c (.sendO h)) 0 0 ∗ dutyTok ER (cell (peer h c) (.recvO h)) 0 0 ∗ dutyTok ER (cell c (.sendL h)) 0 0
    ∗ dutyTok ER (cell (peer h c) (.recvL h)) 0 0)

theorem rights_eq : bigSep rights (fun x => (dutyTok ER x.1 x.2.1 x.2.2 : sProp 𝕄))
    = bigSep Finset.univ fun c : Dev nD => iprop(about 0 c ∗ about 1 c ∗ about 2 c) := by
  unfold rights; rw [bigSep_map, bigSep_univ_prod]
  exact bigSep_congr fun c _ => by
    rw [bigSep_univ_prod, bigSep_fin3, bigSep_fin5, bigSep_fin5, bigSep_fin5]; rfl

theorem unpair {P Q : Dev nD → sProp 𝕄} : (bigSep Finset.univ fun c => iprop(P c ∗ Q c)) ⊢ iprop(bigSep Finset.univ P ∗ bigSep Finset.univ Q) :=
  Entails.of_eq (bigSep_sep' _ P Q)
theorem pair {P Q : Dev nD → sProp 𝕄} : iprop(bigSep Finset.univ P ∗ bigSep Finset.univ Q) ⊢ bigSep Finset.univ fun c => iprop(P c ∗ Q c) :=
  Entails.of_eq (bigSep_sep' _ P Q).symm

/-- Partners under exchange `h`. -/
def peers (h : Fin 3) : Dev nD ≃ Dev nD := ⟨peer h, peer h, peer_peer h, peer_peer h⟩

theorem about_uses (h : Fin 3) : (bigSep Finset.univ fun c : Dev nD => (about h c : sProp 𝕄)) = bigSep Finset.univ fun c : Dev nD => uses h c := by
  unfold about uses
  rw [bigSep_sep', bigSep_sep', bigSep_sep', bigSep_sep', bigSep_sep', bigSep_sep', bigSep_sep', bigSep_sep',
    bigSep_univ_equiv (peers h) (fun c : Dev nD => (dutyTok ER (cell c .bar) 0 h : sProp 𝕄)),
    bigSep_univ_equiv (peers h) (fun c : Dev nD => (dutyTok ER (cell c (.recvO h)) 0 0 : sProp 𝕄)),
    bigSep_univ_equiv (peers h) (fun c : Dev nD => (dutyTok ER (cell c (.recvL h)) 0 0 : sProp 𝕄))]
  rfl

theorem rights_dealt : bigSep rights (fun x => (dutyTok ER x.1 x.2.1 x.2.2 : sProp 𝕄))
    = bigSep Finset.univ fun c : Dev nD => iprop(uses 0 c ∗ uses 1 c ∗ uses 2 c) := by
  rw [rights_eq, bigSep_sep', bigSep_sep', bigSep_sep', bigSep_sep', about_uses, about_uses, about_uses]

/-! ## What the devices owe one another, in all -/

theorem sum_owed (h : Fin 3) (ρ' : Role) (k : ℕ) (c : Dev nD) (ρ : Role) :
    (∑ d : Dev nD, (tallyAt (cell (peer h d) ρ') () k : CellTallies nD τ sig Unit) (cell c ρ) ()) = if ρ' = ρ then k else 0 := by
  have hd (d : Dev nD) : (tallyAt (cell (peer h d) ρ') () k : CellTallies nD τ sig Unit) (cell c ρ) () = if d = peer h c then (if ρ' = ρ then k else 0) else 0 := by
    rw [tallyAt_apply]
    by_cases hr : ρ' = ρ
    · subst hr
      by_cases hp : d = peer h c
      · subst hp; rw [peer_peer, if_pos ⟨rfl, rfl⟩, if_pos rfl, if_pos rfl]
      · rw [if_neg hp]
        exact if_neg fun hx => hp (by
          have := congrArg (fun g : GSem nD τ sig => g.1.1) hx.1
          rw [show c = peer h d from this, peer_peer])
    · rw [if_neg hr, ite_self]
      exact if_neg fun hx => hr (sem_inj (congrArg Prod.snd hx.1)).symm
  rw [Finset.sum_congr rfl fun d _ => hd d, Finset.sum_ite_eq' Finset.univ (peer h c), if_pos (Finset.mem_univ _)]

theorem sum_owedAll (c : Dev nD) (ρ : Role) : (∑ d : Dev nD, owedAll d (cell c ρ) ())
    = (if Role.recvL 2 = ρ then NL else 0) + (if Role.recvO 2 = ρ then NO else 0) + (if Role.recvL 1 = ρ then NL else 0) + (if Role.recvO 1 = ρ then NO else 0)
      + (if Role.recvL 0 = ρ then NL else 0) + (if Role.recvO 0 = ρ then NO else 0)
      + (if Role.bar = ρ then 1 else 0) + (if Role.bar = ρ then 1 else 0) + (if Role.bar = ρ then 1 else 0) := by
  simp only [owedAll, dueL, dueO, dueB, Pi.add_apply, Finsupp.add_apply, Finset.sum_add_distrib, sum_owed, Pi.zero_apply, Finsupp.zero_apply, Finset.sum_const_zero, zero_add]

theorem launch_tally (c : Dev nD) (ρ : Role) (k : ℕ) (hk : (∑ d : Dev nD, owedAll d (cell c ρ) ()) = k) :
    tallyOn (cell c ρ) (launchCredit (Pipeline.owing owedAll) 0 (cell c ρ)) = (tallyAt (cell c ρ) () k : CellTallies nD τ sig Unit) := by
  unfold tallyAt; refine congrArg _ (Finsupp.ext fun u => ?_); cases u
  rw [Pipeline.launchCredit_owing, Finsupp.single_eq_same, hk]

/-- The semaphores the credit of the launch is for, beside the barrier: the landings. -/
abbrev landRole (x : Fin 3 × Fin 2) : Role := match x.2 with | 0 => .recvO x.1 | 1 => .recvL x.1
theorem landRole_inj : Function.Injective fun x => (landRole x).sem := fun x y h => by
  have := sem_inj h
  revert x y; decide
theorem landRole_ne : ∀ x, landRole x ≠ .bar := by decide

theorem credit_dealt (c : Dev nD) : (Pipeline.launchCred owedAll c : sProp 𝕄)
    ⊢ iprop(cred (tallyAt (cell c .bar) () 3)
      ∗ (cred (tallyAt (cell c (.recvO 0)) () NO) ∗ cred (tallyAt (cell c (.recvL 0)) () NL))
      ∗ (cred (tallyAt (cell c (.recvO 1)) () NO) ∗ cred (tallyAt (cell c (.recvL 1)) () NL))
      ∗ (cred (tallyAt (cell c (.recvO 2)) () NO) ∗ cred (tallyAt (cell c (.recvL 2)) () NL))) := by
  unfold Pipeline.launchCred
  rw [bigSep_univ_at _ Role.bar.sem, launch_tally c .bar 3 (by rw [sum_owedAll]; decide)]
  refine sep_mono_right ((bigSep_subset (s := Finset.univ.erase Role.bar.sem) (t := Finset.univ.map ⟨fun x => (landRole x).sem, landRole_inj⟩) (fun s hs => ?_)).trans ?_)
  · obtain ⟨x, -, rfl⟩ := Finset.mem_map.mp hs
    exact Finset.mem_erase.mpr ⟨fun h => landRole_ne x (sem_inj h), Finset.mem_univ _⟩
  · rw [bigSep_map, bigSep_univ_prod, bigSep_fin3, BI.bigSep_fin_two, BI.bigSep_fin_two, BI.bigSep_fin_two]
    have hO (h : Fin 3) : (∑ d : Dev nD, owedAll d (cell c (.recvO h)) ()) = NO := by rw [sum_owedAll]; fin_cases h <;> simp
    have hL (h : Fin 3) : (∑ d : Dev nD, owedAll d (cell c (.recvL h)) ()) = NL := by rw [sum_owedAll]; fin_cases h <;> simp
    rw [← launch_tally c (.recvO 0) NO (hO 0), ← launch_tally c (.recvO 1) NO (hO 1), ← launch_tally c (.recvO 2) NO (hO 2),
      ← launch_tally c (.recvL 0) NL (hL 0), ← launch_tally c (.recvL 1) NL (hL 1), ← launch_tally c (.recvL 2) NL (hL 2)]
    exact BI.Entails.refl _

/-! ## The launch -/

/-- A resource of the whole machine, kept at one device until it is dealt. -/
def parked (X : sProp 𝕄) (c : Dev nD) : sProp 𝕄 := if c = 0 then X else iprop(emp)
theorem bigSep_parked (X : sProp 𝕄) : bigSep Finset.univ (parked X) = X := by
  rw [bigSep_univ_at _ (0 : Dev nD), bigSep_congr (s := Finset.univ.erase (0 : Dev nD)) (Ψ := fun _ => (BI.emp : sProp 𝕄))
      fun c hc => by unfold parked; rw [if_neg (Finset.ne_of_mem_erase hc)]; rfl, BI.bigSep_emp_const]
  unfold parked; rw [if_pos rfl]
  exact BI.equiv_iff.mp sep_emp

/-- The protocol's share of the launch. -/
def seed : Dev nD → sProp 𝕄 := parked (BI.own (ER (launchOf liveCells dormantCells rights)))

variable (e : Dev nD → Part F)

/-- The schedules of all semaphores, as the launch gives them. -/
def records (K : GSem nD τ sig → ℕ) : sProp 𝕄 :=
  iprop((bigSep (liveCells ∪ dormantCells) fun g => cellInv ER (rd e) (K g) g) ∗ bigSep liveCells fun g => reached ER g 0)
instance records_persistent (K : GSem nD τ sig → ℕ) : Persistent (records e K) := by unfold records; infer_instance

theorem records_known (K : GSem nD τ sig → ℕ) : records e K ⊢ known e K := by
  unfold records known
  iintro ⟨#HI, #HR⟩
  isplitr
  · iintro %c %ρ
    iapply (show (bigSep (liveCells ∪ dormantCells) fun g => (cellInv ER (rd e) (K g) g : sProp 𝕄)) ⊢ cellInv ER (rd e) (K (cell c ρ)) (cell c ρ) from
      bigSep_elim (cell_mem c ρ)); iexact HI
  · iintro %c
    iapply (show (bigSep liveCells fun g => (reached ER g 0 : sProp 𝕄)) ⊢ reached ER (cell c .bar) 0 from
      bigSep_elim (Finset.mem_map_of_mem barAt (Finset.mem_univ c))); iexact HR

/-- The rights to open device `c`'s four semaphores of exchange `h`. -/
def mayOpen (h : Fin 3) (c : Dev nD) : sProp 𝕄 :=
  iprop(openTok ER (cell c (.sendO h)) ∗ openTok ER (cell c (.recvO h)) ∗ openTok ER (cell c (.sendL h)) ∗ openTok ER (cell c (.recvL h)))

theorem opens_dealt : bigSep dormantCells (fun g => (openTok ER g : sProp 𝕄))
    = bigSep Finset.univ fun c : Dev nD => iprop(mayOpen 0 c ∗ mayOpen 1 c ∗ mayOpen 2 c) := by
  rw [bigSep_map, bigSep_univ_prod]
  refine bigSep_congr fun c _ => ?_
  rw [Pipeline.bigSep_univ_sigma, bigSep_fin3, bigSep_fin4, bigSep_fin4, bigSep_fin4]
  rfl

/-- What of the protocol stays with device `c`. -/
def kept (c : Dev nD) : sProp 𝕄 :=
  iprop(atPos ER (cell c .bar) 0 ∅ 0 ∗ (mayOpen 0 c ∗ mayOpen 1 c ∗ mayOpen 2 c) ∗ (uses 0 c ∗ uses 1 c ∗ uses 2 c))

/-- A device's share of the protocol and its credit are what it carries to the region. -/
theorem talk_intro (K : GSem nD τ sig → ℕ) (c : Dev nD) : iprop(records e K ∗ kept c ∗ Pipeline.launchCred owedAll c) ⊢ talk e c := by
  unfold kept uses mayOpen talk barIn excTk toks
  iintro ⟨#HK, ⟨Ha, ⟨Ho0, Ho1, Ho2⟩, ⟨b0, s0, r0, t0, l0⟩, ⟨b1, s1, r1, t1, l1⟩, b2, s2, r2, t2, l2⟩, Hc⟩
  ihave Hc := (credit_dealt (F := F) c) $$ Hc
  icases Hc with ⟨c3, ⟨p0, q0⟩, ⟨p1, q1⟩, p2, q2⟩
  isplitr
  · iexists K; iapply (records_known e K); iexact HK
  isplitl [Ha c3 b0 b1 b2]
  · isplitl [Ha]; · iexact Ha
    isplitl [c3]; · iexact c3
    isplitl [b0]; · iexact b0
    isplitl [b1] <;> iassumption
  isplitl [Ho0 s0 r0 t0 l0 p0 q0]
  · isplitl [Ho0]; · iexact Ho0
    isplitl [s0]; · iexact s0
    isplitl [t0]; · iexact t0
    isplitl [r0]; · iexact r0
    isplitl [l0]; · iexact l0
    isplitl [p0] <;> iassumption
  isplitl [Ho1 s1 r1 t1 l1 p1 q1]
  · isplitl [Ho1]; · iexact Ho1
    isplitl [s1]; · iexact s1
    isplitl [t1]; · iexact t1
    isplitl [r1]; · iexact r1
    isplitl [l1]; · iexact l1
    isplitl [p1] <;> iassumption
  isplitl [Ho2]; · iexact Ho2
  isplitl [s2]; · iexact s2
  isplitl [t2]; · iexact t2
  isplitl [r2]; · iexact r2
  isplitl [l2]; · iexact l2
  isplitl [p2] <;> iassumption

/-- The barrier is the one semaphore outside the regions. -/
theorem unscoped_bar : ∀ s : SemLoc sig, s.isScoped .tc = false → s = Role.bar.sem := by decide

theorem unscopedSems_bar (c : Dev nD) : (unscopedSems0 c : sProp 𝕄) = semVal (cell c .bar) 0 := by
  unfold unscopedSems0
  rw [show (Finset.univ.filter fun s : SemLoc sig => ¬s.isScoped .tc = true) = {Role.bar.sem} by decide, bigSep_singleton]

/-- THE LAUNCH: from the barriers' counters at zero, the credit and the protocol's share, beside anything `X`, every device gets what it
    carries to the region. -/
theorem launched (X : Dev nD → sProp 𝕄) :
    (bigSep Finset.univ fun c : Dev nD => iprop(X c ∗ semVal (cell c .bar) 0 ∗ Pipeline.launchCred owedAll c ∗ seed c))
      ⊢ (|={Set.univ}=> bigSep Finset.univ fun c : Dev nD => iprop(X c ∗ talk e c) : sProp 𝕄) := by
  have hv : bigSep Finset.univ (fun c : Dev nD => (semVal (cell c .bar) 0 : sProp 𝕄)) ⊢ bigSep liveCells (fun g => (semVal g 0 : sProp 𝕄)) :=
    Entails.of_eq (bigSep_map (s := Finset.univ) barAt (Φ := fun g : GSem nD τ sig => (semVal g 0 : sProp 𝕄))).symm
  have hat : bigSep liveCells (fun g => (atPos ER g 0 ∅ 0 : sProp 𝕄)) ⊢ bigSep Finset.univ (fun c : Dev nD => (atPos ER (cell c .bar) 0 ∅ 0 : sProp 𝕄)) :=
    Entails.of_eq (bigSep_map (s := Finset.univ) barAt (Φ := fun g : GSem nD τ sig => (atPos ER g 0 ∅ 0 : sProp 𝕄)))
  have hT (K : GSem nD τ sig → ℕ) (c : Dev nD) : iprop(records e K ∗ (kept c ∗ Pipeline.launchCred owedAll c ∗ X c)) ⊢ (iprop(X c ∗ talk e c) : sProp 𝕄) := by
    iintro ⟨HR, Hk, Hc, HX⟩
    isplitl [HX]; · iexact HX
    iapply (talk_intro e K c)
    isplitl [HR]; · iexact HR
    isplitl [Hk] <;> iassumption
  iintro H
  ihave H2 := unpair $$ H; icases H2 with ⟨HX, H3⟩
  ihave H4 := unpair $$ H3; icases H4 with ⟨Hv, H5⟩
  ihave H6 := unpair $$ H5; icases H6 with ⟨Hc, HG⟩
  ihave Hu := (show bigSep Finset.univ (seed (F := F)) ⊢ BI.own (ER (launchOf liveCells dormantCells rights)) from
    Entails.of_eq (bigSep_parked (F := F) (BI.own (ER (launchOf liveCells dormantCells rights))))) $$ HG
  imod (Rounds.fund_launch ER (rd e) cells_disjoint (fun g _ h => h) rights) $$ [Hv Hu] with ⟨%K, -, #Hinv, #Hr, Hat, Hopen, Htok⟩
  · isplitl [Hv]
    · iapply hv $$ Hv
    · iexact Hu
  imodintro
  iapply (bigSep_with_persistent (R := records e K) (Φ := fun c => iprop(kept c ∗ Pipeline.launchCred owedAll c ∗ X c)) fun c _ => hT K c)
  isplitr
  · unfold records
    isplitr; · iexact Hinv
    iexact Hr
  iapply pair
  isplitl [Hat Hopen Htok]
  · unfold kept
    iapply pair; isplitl [Hat]; · iapply hat $$ Hat
    iapply pair; isplitl [Hopen]; · iapply (Entails.of_eq (opens_dealt (F := F))) $$ Hopen
    iapply (Entails.of_eq (rights_dealt (F := F))) $$ Htok
  iapply pair
  isplitl [Hc] <;> iassumption

end Cert.KernelIdeal.Comb
-- ==== Proof.KernelIdeal.Each.lean ====
/-
  A region whose tables differ from device to device, from its record at each device's tables.
-/
module

public import proofs.«01_k».proof.Proof.KernelIdeal.Record0

@[expose] public section

noncomputable section

namespace Cert.KernelIdeal.Comb

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation HostSeg)
open Cert.KernelIdeal Cert.KernelIdeal.Gen

variable {F : FTy → Type} [FloatOps F]

local notation "𝕄" => MT nD τ sig Unit (Elt F) ℕ UU ℕ

variable (pcs : Fin 2 → Pipeline.PCfg sig Λ₀ (Elt F)) (a : Dev nD → (p : Fin 2) → (pcs p).Adm)
variable (D : (d : Dev nD) → (p : Fin 2) → (c : Dev nD) → Dat τ (Elt F) Unit ℕ UU ℕ (Pipeline.pin pcs (a d) p) c)

/-- The proof data of every device, each at its own tables. -/
abbrev each (p : Fin 2) (c : Dev nD) : Dat τ (Elt F) Unit ℕ UU ℕ (Pipeline.pinD pcs a c p) c := D c p c

theorem waits_each (p : Fin 2) (c : Dev nD) (h : (levAts L lv : sProp 𝕄) ⊢ Pipeline.cellsWaits (Pipeline.pin pcs (a c)) (D c) () p c) :
    (levAts L lv : sProp 𝕄) ⊢ Pipeline.PerCore.cellsWaits (Pipeline.pinD pcs a) (each pcs a D) () p c := h

/-- Records of one region at every device's tables, with the same semaphores of its own, are a record of the region. -/
def record {p : Fin 2} (R : (d : Dev nD) → Pipeline.RegionSeg pcs (a d) (D d) () defs₀ 𝒱₀ L lv p) (K : Type) [Fintype K] (osem : K → SemLoc sig)
    (ho : Pipeline.OwnSemFacts (pcs p).spec osem)
    (hsems : ∀ c, (Pipeline.ownSems0 (R c).osem c : sProp 𝕄) = Pipeline.ownSems0 osem c) :
    Pipeline.PerCore.RegionSeg pcs a (each pcs a D) () defs₀ 𝒱₀ L lv p where
  win := (R 0).win
  block_pos := (R 0).block_pos
  stage_whole := (R 0).stage_whole
  K := K
  osem := osem
  ho := ho
  hbody c := (R c).hbody c
  hwaits c := waits_each pcs a D p c ((R c).hwaits c)
  pre c := (R c).pre c
  post c := (R c).post c
  X c := (R c).X c
  Y c := (R c).Y c
  Z c := (R c).Z c
  hentry c := by rw [← hsems c]; exact (R c).hentry c
  hin c := (R c).hin c
  hout c := by rw [← hsems c]; exact (R c).hout c
  hexit c := (R c).hexit c

end Cert.KernelIdeal.Comb
end
-- ==== Proof.KernelIdeal.Launch.lean ====
/-
  The whole program: its host stretches and its two regions in a row on every device, and what every run leaves.
-/
module

public import proofs.«01_k».proof.Proof.KernelIdeal.Table
public import proofs.«01_k».proof.Proof.KernelIdeal.Fund
public import proofs.«01_k».proof.Proof.KernelIdeal.Each

@[expose] public section

noncomputable section

namespace Cert.KernelIdeal.Comb

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation HostSeg)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## What a device's buffers hold between the items -/

/-- After the first region; -/
def past0 (c : Dev nD) : Valuation τ sig (Elt F) := after0 (tabs m c) (fun _ => V1 m c) c
/-- when the second is entered; -/
def mid (c : Dev nD) : Valuation τ sig (Elt F) := StableHlo.after hostOps1 (past0 m c)
/-- at the end. -/
def ends (c : Dev nD) : Valuation τ sig (Elt F) := StableHlo.after hostOps2 (after1 (mid m) c)

/-! ## The two regions, every device at its own table -/

/-- What a device carries around the first region. -/
def carried (c : Dev nD) : sProp 𝕄 := iprop((∃ r, prngReg c r) ∗ talk (enter (mid m)) c)

abbrev regionA (d : Dev nD) := record0 (tabs m d) (fun _ => V1 m d) (mid m) (carried m) (fun _ _ => rfl)
abbrev regionB (d : Dev nD) := record1 (mid m) (tabs m d) (dat0 (tabs m d) fun _ => V1 m d)

/-- The proof data of every device's pipelines. -/
abbrev dats := each (pcfgs (F := F)) (tabs m) fun d => both (mid m) (tabs m d) (dat0 (tabs m d) fun _ => V1 m d)

set_option backward.isDefEq.respectTransparency.types false in
def every0 : Pipeline.PerCore.RegionSeg (pcfgs (F := F)) (tabs m) (dats m) () defs₀ 𝒱₀ L lv 0 :=
  record (pcfgs (F := F)) (tabs m) (fun d => both (mid m) (tabs m d) (dat0 (tabs m d) fun _ => V1 m d)) (fun d => regionA m d)
    PEmpty (fun k => k.elim) (Pipeline.OwnSemFacts.none _) fun _ => rfl

set_option backward.isDefEq.respectTransparency.types false in
def every1 : Pipeline.PerCore.RegionSeg (pcfgs (F := F)) (tabs m) (dats m) () defs₀ 𝒱₀ L lv 1 :=
  record (pcfgs (F := F)) (tabs m) (fun d => both (mid m) (tabs m d) (dat0 (tabs m d) fun _ => V1 m d)) (fun d => regionB m d)
    ((_ : Fin 3) × Fin 4) own1 ownFacts1 fun _ => rfl

/-! ## The items in a row -/

/-- A host stretch that reads no device. -/
abbrev stretch (ops : List (HloOp τ sig (Elt F))) (hs : ops.Forall fun op => op.bufs ⊆ StableHlo.tcRefs τ sig) (hf : ops.Forall fun op => op.fresh = ∅)
    (V : Dev nD → Valuation τ sig (Elt F)) (R : Dev nD → sProp 𝕄) : HostSeg (Ix := Unit) (Name := ℕ) (U := UU) (Lvl := ℕ) (pcfgs (F := F)) defs₀ 𝒱₀ L lv :=
  HostSeg.ofOps _ _ _ _ _ (Pipeline.ucRefs τ sig) ops
    (fun op h => Pipeline.sub_ucRefs op ((List.forall_iff_forall_mem.mp hs) op h)) (fun op h => (List.forall_iff_forall_mem.mp hf) op h) V R

/-- What rides along before the second region: everything owed, and what is carried; -/
def rides (c : Dev nD) : sProp 𝕄 := iprop((∃ Wd, owes (c : Thread nD τ) (owedAll c) Wd) ∗ emp ∗ carried m c)
/-- and after it: nothing owed, the barrier at zero. -/
def quiet (c : Dev nD) : sProp 𝕄 := iprop(semVal (cell c .bar) 0 ∗ ∃ Wd, owes (c : Thread nD τ) (0 : CellTallies nD τ sig Unit) Wd)

/-- Device `c`'s items. -/
def items (c : Dev nD) : List (Pipeline.PerCore.Seg (pcfgs (F := F)) (tabs m) (dats m) () defs₀ 𝒱₀ L lv) :=
  [.host (stretch (hostOps0 c) (hostOps0_sub c) (hostOps0_fresh c) (V0 m) (rides m)), .region (every0 m),
    .host (stretch hostOps1 hostOps1_sub hostOps1_fresh (past0 m) (rides m)), .region (every1 m),
    .host (stretch hostOps2 hostOps2_sub hostOps2_fresh (after1 (mid m)) quiet)]

theorem arr1_sub : Pipeline.arrRefs (τ := τ) (pcfgs (F := F) 1).spec ⊆ Pipeline.ucRefs τ sig := Pipeline.arrRefs_sub_ucRefs _ launch1.win.arr_unscoped

theorem into0 (c : Dev nD) : iprop(StableHlo.held (c.tc : Thread nD τ) (Pipeline.ucRefs τ sig) (V1 m c) ∗ rides m c) ⊢ (every0 m).pre c :=
  record0_pre (tabs m c) (fun _ => V1 m c) (mid m) (carried m) (fun _ _ => rfl) c

theorem outof0 (c : Dev nD) : (every0 m).post c ⊢ iprop(StableHlo.held (c.tc : Thread nD τ) (Pipeline.ucRefs τ sig) (past0 m c) ∗ rides m c) :=
  record0_post (tabs m c) (fun _ => V1 m c) (mid m) (carried m) (fun _ _ => rfl) c

theorem into1 (c : Dev nD) : iprop(StableHlo.held (c.tc : Thread nD τ) (Pipeline.ucRefs τ sig) (mid m c) ∗ rides m c) ⊢ (every1 m).pre c := by
  show _ ⊢ iprop(StableHlo.held (c.tc : Thread nD τ) (Pipeline.arrRefs (τ := τ) (pcfgs (F := F) 1).spec) (mid m c) ∗ (∃ r, prngReg c r)
    ∗ (StableHlo.held (c.tc : Thread nD τ) (rest1 (F := F)) (mid m c) ∗ emp) ∗ talk (enter (mid m)) c ∗ ∃ Wd, owes (c : Thread nD τ) (0 + owedAll c) Wd)
  rw [StableHlo.held_sub_split (c.tc : Thread nD τ) (arr1_sub (F := F)) (mid m c), zero_add]
  unfold rides carried
  iintro ⟨⟨Ha, Hr⟩, HO, -, Hp, Ht⟩
  isplitl [Ha]; · iexact Ha
  isplitl [Hp]; · iexact Hp
  isplitl [Hr]
  · isplitl [Hr]; · iexact Hr
    iempintro
  isplitl [Ht]; · iexact Ht
  iexact HO

theorem outof1 (c : Dev nD) : (every1 m).post c ⊢ iprop(StableHlo.held (c.tc : Thread nD τ) (Pipeline.ucRefs τ sig) (after1 (mid m) c) ∗ quiet c) := by
  show iprop(StableHlo.held (c.tc : Thread nD τ) (Pipeline.arrRefs (τ := τ) (pcfgs (F := F) 1).spec) (after1 (mid m) c) ∗ (∃ r, prngReg c r)
    ∗ (StableHlo.held (c.tc : Thread nD τ) (rest1 (F := F)) (after1 (mid m) c) ∗ emp) ∗ semVal (cell c .bar) 0
    ∗ ∃ Wd, owes (c : Thread nD τ) (0 : CellTallies nD τ sig Unit) Wd) ⊢ _
  rw [StableHlo.held_sub_split (c.tc : Thread nD τ) (arr1_sub (F := F)) (after1 (mid m) c)]
  unfold quiet
  iintro ⟨Ha, -, ⟨Hr, -⟩, Hb, HO⟩
  isplitl [Ha Hr]
  · isplitl [Ha]; · iexact Ha
    iexact Hr
  isplitl [Hb] <;> iassumption

/-! ## The run -/

/-- The staging semaphores of the pipelines are distinct, at every device's tables. -/
theorem staging_inj : Function.Injective (Pipeline.PerCore.cellOf (nD := nD) (τ := τ) (Pipeline.pinD (pcfgs (F := F)) (tabs m))) :=
  Pipeline.PerCore.cellOf_injective _
    (fun c p => Pipeline.specSemsDistinct_of_nodup _ (by match p with | 0 => exact semsDistinct 0 | 1 => exact semsDistinct 1))
    (fun c p p' h => Pipeline.specSemsDisjoint_of_disjoint _ _ (fun x hx hx' => by
      have := List.forall_iff_forall_mem.1 (semsDisjoint p p' h) x
      match p, p' with
      | 0, 0 => exact h rfl
      | 1, 1 => exact h rfl
      | 0, 1 => exact this hx hx'
      | 1, 0 => exact this hx hx'))

/-- The launch's resources: the pipelines' and the protocol's. -/
def launchElt : UU :=
  (initOf (Pipeline.PerCore.cells (Pipeline.pinD (pcfgs (F := F)) (tabs m)) (staging_inj m)) (Pipeline.PerCore.launchToks (Pipeline.pinD (pcfgs (F := F)) (tabs m)) (staging_inj m)),
    launchOf liveCells dormantCells rights)

abbrev opens (c : Dev nD) : sProp 𝕄 := iprop(StableHlo.held (c.tc : Thread nD τ) (Pipeline.ucRefs τ sig) (V0 m c) ∗ rides m c)
abbrev closes (c : Dev nD) : sProp 𝕄 := iprop(StableHlo.held (c.tc : Thread nD τ) (Pipeline.ucRefs τ sig) (ends m c) ∗ semVal (cell c .bar) 0)

theorem starts : iprop((bigSep Finset.univ fun c : Dev nD => iprop(unscopedBufs c (fun b => m ((c.tc : Thread nD τ).loc b)) ∗ unscopedSems0 c
        ∗ owes (c.tc : Thread nD τ) (owedAll c) ∅ ∗ Pipeline.launchCred owedAll c ∗ prngReg c (ρ c) ∗ seed c)) ∗ levAts L lv)
    ⊢ (|={Set.univ}=> bigSep Finset.univ (opens m) : sProp 𝕄) := by
  have h1 (c : Dev nD) : iprop(unscopedBufs c (fun b => m ((c.tc : Thread nD τ).loc b)) ∗ unscopedSems0 c
        ∗ owes (c.tc : Thread nD τ) (owedAll c) ∅ ∗ Pipeline.launchCred owedAll c ∗ prngReg c (ρ c) ∗ seed c)
      ⊢ (iprop((StableHlo.held (c.tc : Thread nD τ) (Pipeline.ucRefs τ sig) (V0 m c) ∗ owes (c.tc : Thread nD τ) (owedAll c) ∅ ∗ prngReg c (ρ c))
        ∗ semVal (cell c .bar) 0 ∗ Pipeline.launchCred owedAll c ∗ seed c) : sProp 𝕄) := by
    rw [unscopedSems_bar, ← Pipeline.unscopedBufs_held (Ix := Unit) (Name := ℕ) (U := UU) (Lvl := ℕ) c (V0 m c)]
    iintro ⟨Hh, Hs, HO, Hc, Hp, HG⟩
    isplitl [Hh HO Hp]
    · isplitl [Hh]; · iexact Hh
      isplitl [HO] <;> iassumption
    isplitl [Hs]; · iexact Hs
    isplitl [Hc] <;> iassumption
  have h2 (c : Dev nD) : iprop((StableHlo.held (c.tc : Thread nD τ) (Pipeline.ucRefs τ sig) (V0 m c) ∗ owes (c.tc : Thread nD τ) (owedAll c) ∅ ∗ prngReg c (ρ c))
        ∗ talk (enter (mid m)) c) ⊢ (opens m c : sProp 𝕄) := by
    unfold opens rides carried
    iintro ⟨⟨Hh, HO, Hp⟩, Ht⟩
    isplitl [Hh]; · iexact Hh
    isplitl [HO]; · iexists ∅; iexact HO
    isplitr; · iempintro
    isplitl [Hp]; · iexists (ρ c); iexact Hp
    iexact Ht
  iintro ⟨H, -⟩
  ihave H := (show (bigSep Finset.univ fun c : Dev nD => iprop(unscopedBufs c (fun b => m ((c.tc : Thread nD τ).loc b)) ∗ unscopedSems0 c
        ∗ owes (c.tc : Thread nD τ) (owedAll c) ∅ ∗ Pipeline.launchCred owedAll c ∗ prngReg c (ρ c) ∗ seed c))
      ⊢ (bigSep Finset.univ fun c : Dev nD => iprop((StableHlo.held (c.tc : Thread nD τ) (Pipeline.ucRefs τ sig) (V0 m c) ∗ owes (c.tc : Thread nD τ) (owedAll c) ∅ ∗ prngReg c (ρ c))
        ∗ semVal (cell c .bar) 0 ∗ Pipeline.launchCred owedAll c ∗ seed c) : sProp 𝕄) from bigSep_mono fun c _ => h1 c) $$ H
  imod (launched (enter (mid m)) fun c => iprop(StableHlo.held (c.tc : Thread nD τ) (Pipeline.ucRefs τ sig) (V0 m c)
    ∗ owes (c.tc : Thread nD τ) (owedAll c) ∅ ∗ prngReg c (ρ c))) $$ H with H
  imodintro
  iapply (show (bigSep Finset.univ fun c : Dev nD => iprop((StableHlo.held (c.tc : Thread nD τ) (Pipeline.ucRefs τ sig) (V0 m c) ∗ owes (c.tc : Thread nD τ) (owedAll c) ∅ ∗ prngReg c (ρ c))
        ∗ talk (enter (mid m)) c))
      ⊢ (bigSep Finset.univ (opens m) : sProp 𝕄) from bigSep_mono fun c _ => h2 c) $$ H

set_option backward.isDefEq.respectTransparency.types false in
/-- THE RUN: every weakly fair execution of the program on the eight devices ends, every buffer outside the kernels holding what the items in
    a row leave, and every semaphore at zero. -/
theorem run_all : θ_run defs (onTc (τ := τ) (main (F := F))) ⟨m, fun _ => 0, ρ⟩
    (fun r => (∀ (c : Dev nD), ∀ b ∈ Pipeline.ucRefs τ sig, r.2.mem (c, b) = ends m c b) ∧ r.2.sem = fun _ => 0) :=
  Pipeline.PerCore.θ_run_regions_kit_sems (pcfgs (F := F)) (tabs m) (dats m) () (staging_inj m) EP defs₀ 𝒱₀ L lv m ρ main (items m)
    (fun c Q => by
      rewrite [main_chain c, Pipeline.PerCore.Seg.run_eq_chain,
        show (items m c).map Pipeline.PerCore.Seg.prog = [
          StableHlo.seq (hostOps0 c),
          Prog.lift (.customCall (Pipeline.entry 0) ()),
          StableHlo.seq hostOps1,
          Prog.lift (.customCall (Pipeline.entry 1) ()),
          StableHlo.seq hostOps2 ] from rfl]
      exact .rfl)
    (fun c => by simp only [items, Pipeline.PerCore.Seg.pipes_host, Pipeline.PerCore.Seg.pipes_region, Pipeline.PerCore.Seg.pipes_nil]; decide)
    (O₀ := owedAll) (hL := L_of_ne) (G := seed) (u₀ := launchElt m)
    (hu₀ := by
      unfold launchElt seed
      iintro Hu
      ihave H := (ownU_pair _ _) $$ Hu
      icases H with ⟨HP, HX⟩
      imodintro
      isplitl [HP]; · iexact HP
      rw [bigSep_parked]; iexact HX)
    (T₀ := opens m) (Tₙ := closes m)
    (hch := fun c => by
      refine ⟨.rfl, into0 m c, outof0 m c, into1 m c, outof1 m c, ?_⟩
      show iprop(StableHlo.held (c.tc : Thread nD τ) (Pipeline.ucRefs τ sig) (ends m c) ∗ quiet c)
        ⊢ iprop(closes m c ∗ ∃ W, owes (c.tc : Thread nD τ) (0 : CellTallies nD τ sig Unit) W)
      unfold quiet
      iintro ⟨Hh, Hb, HO⟩
      isplitr [HO]
      · isplitl [Hh] <;> iassumption
      · iexact HO)
    (hinit := starts m ρ)
    (QY := fun c s => (∀ b ∈ Pipeline.ucRefs τ sig, s.mem (c, b) = ends m c b) ∧ s.sem (cell c .bar) = 0)
    (hfin := fun c s' => by
      unfold closes StableHlo.held
      iintro ⟨⟨Hh, Hb⟩, HSI⟩
      icombine HSI Hb gives %hb
      ihave Hr := (pointsTo_read_all (Pipeline.ucRefs τ sig) (fun b => (c, b)) (ends m c) s') $$ [Hh HSI]
      · isplitl [Hh] <;> iassumption
      icases Hr with ⟨%h, HSI⟩
      imodintro
      isplitr
      · ipureintro
        exact ⟨h, by simpa using hb⟩
      iexact HSI)
    (hQ := fun s h hs => ⟨fun c => (h c).1, sem_eq_zero hs fun c sm hsm => by
      obtain rfl := unscoped_bar sm hsm
      exact (h c).2⟩)

end Cert.KernelIdeal.Comb
end
-- ==== Proof.KernelIdeal.Ends.lean ====
/-
  What every run leaves: the arguments as launched, and the result as the two regions compute it.
-/
module

public import proofs.«01_k».proof.Proof.KernelIdeal.Launch

@[expose] public section

noncomputable section

namespace Cert.KernelIdeal.Comb

open Idealize.ShloMosaic Idealize.ShloMosaic.TcCoe
open Idealize.SL.Sem
open Cert.KernelIdeal Cert.KernelIdeal.Gen

variable {F : FTy → Type} [FloatOps F]
variable (m : (ℓ : Loc nD τ sig) → Buf (Elt F) ℓ) (ρ : Dev nD → PrngReg)

/-- A buffer no item writes ends as launched. -/
theorem ends_of (c : Dev nD) (r : Ref sig .tc) (h2 : r ∉ hostOps2_W) (h1 : r ∉ hostOps1_W) (h0 : r ∉ hostOps0_W)
    (hr : (Proc.devRef .tc r : DevRef τ sig) ≠ Proc.devRef .tc main_v19) (hw : ∀ w, r ≠ Pipeline.arrRef spec0 w) :
    ends m c (Proc.devRef .tc r) = m (c, Proc.devRef .tc r) :=
  (StableHlo.after_of_writes_sub hostOps2 _ hostOps2_writes h2).trans
    ((Function.update_of_ne hr _ _).trans
      ((StableHlo.after_of_writes_sub hostOps1 _ hostOps1_writes h1).trans
        ((after0_of (tabs m c) (fun _ => V1 m c) c hw).trans (V1_of m c r h0))))

theorem ends_arg0 (c : Dev nD) : ends m c (Proc.devRef .tc main_arg0) = m ((c.tc : Thread nD τ).loc main_arg0) :=
  ends_of m c main_arg0 (by decide) (by decide) (by decide) (by decide) (by decide)
theorem ends_arg1 (c : Dev nD) : ends m c (Proc.devRef .tc main_arg1) = m ((c.tc : Thread nD τ).loc main_arg1) :=
  ends_of m c main_arg1 (by decide) (by decide) (by decide) (by decide) (by decide)
theorem ends_arg2 (c : Dev nD) : ends m c (Proc.devRef .tc main_arg2) = m ((c.tc : Thread nD τ).loc main_arg2) :=
  ends_of m c main_arg2 (by decide) (by decide) (by decide) (by decide) (by decide)

theorem mem_ends (r : Ref sig .tc) (h : (Proc.devRef (τ := τ) .tc r).isScoped = false) : Proc.devRef .tc r ∈ Pipeline.ucRefs τ sig :=
  Finset.mem_filter.mpr ⟨StableHlo.devRef_mem_tcRefs r, by rw [h]; decide⟩

/-- THE FRAME: every run ends with the arguments as launched and every semaphore at zero; and its result is what the items leave. -/
theorem run_args : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_v20) = ends m c (Proc.devRef .tc main_v20)) ∧ r.2.sem = fun _ => 0) :=
  (θ_run defs _ _).mono (fun r h => ⟨fun c => ⟨(h.1 c _ (mem_ends main_arg0 rfl)).trans (ends_arg0 m c), (h.1 c _ (mem_ends main_arg1 rfl)).trans (ends_arg1 m c),
    (h.1 c _ (mem_ends main_arg2 rfl)).trans (ends_arg2 m c), h.1 c _ (mem_ends main_v20 rfl)⟩, h.2⟩) (run_all m ρ)

end Cert.KernelIdeal.Comb
end
-- ==== Proof.Value.Heads.lean ====
/- The heads' columns. An array of 1024 columns holds sixteen heads of sixty-four channels each: column `64·h + d` is
   channel `d` of head `h`. The kernel keeps the heads apart by a mask of ones and zeros, 16×1024, and sums over heads or
   columns with it; here is what the mask is and what such sums are. -/
module

public import proofs.«01_k».proof.Proof.KernelIdeal.Batch
public import Idealize.ShloMosaic.PureOps.Ideal.Laws
public import Idealize.ShloMosaic.Lib.ValueIdx

@[expose] public section

noncomputable section

namespace Cert.Attn

open Idealize.ShloMosaic Cert.KernelIdeal Cert.KernelIdeal.Gen Cert.KernelIdeal.Comb
open scoped BigOperators

/-- Channel `d` of head `h`. -/
def col (h : Fin 16) (d : Fin 64) : Fin 1024 := ⟨64 * h.val + d.val, by have := h.isLt; have := d.isLt; omega⟩

/-- A sum over the columns, head by head. -/
theorem sum_col (f : Fin 1024 → EReal) : ∑ c, f c = ∑ h : Fin 16, ∑ d : Fin 64, f (col h d) := by
  rw [← Fintype.sum_prod_type' fun h d => f (col h d)]
  refine (Fintype.sum_equiv (finProdFinEquiv (m := 16) (n := 64)) _ _ fun x => ?_).symm
  refine congrArg f (Fin.ext ?_)
  show 64 * x.1.val + x.2.val = x.2.val + 64 * x.1.val
  omega

/-- The word a column's head number is computed as, by the division that rounds down. -/
def headWord (c : BitVec 32) : BitVec 32 :=
  Scalar.select (IntOp.andi
      (IntOp.cmpi .ne (IntOp.subi ((IntOp.cmpi .sgt c 0#32).setWidth 32) ((IntOp.cmpi .slt c 0#32).setWidth 32))
        (Scalar.subi (Scalar.extui (Scalar.cmpi .sgt 64#32 0#32)) (Scalar.extui (Scalar.cmpi .slt 64#32 0#32))))
      (IntOp.cmpi .ne (IntOp.remsi .vector c 64#32) 0#32))
    (IntOp.subi (IntOp.divsi .vector c 64#32) 1#32) (IntOp.divsi .vector c 64#32)

/-- That word is the column over sixty-four. -/
theorem headWord_eq : ∀ c : Fin 1024, headWord (BitVec.ofNat 32 c.val) = BitVec.ofNat 32 (c.val / 64) := by decide +kernel

/-- A mask's entry, as the word it is computed as. -/
theorem entry_eq (h : Fin 16) (c : Fin 1024) :
    (IntOp.cmpi .eq (headWord (BitVec.ofNat 32 c.val)) (BitVec.ofNat 32 h.val)).setWidth 32 = if c.val / 64 = h.val then 1#32 else 0#32 := by
  rw [headWord_eq]
  revert h c; decide +kernel

theorem iota_col (h : Fin 16) (c : Fin 1024) :
    iota .tc S16x1024 32 [1] iota_S16x1024_d1_w32 (ix2 16 1024 h c) = BitVec.ofNat 32 c.val := by
  show BitVec.ofNat 32 (0 * 1024 + c.val) = _
  rw [Nat.zero_mul, Nat.zero_add]
theorem iota_head (h : Fin 16) (c : Fin 1024) :
    iota .tc S16x1024 32 [0] iota_S16x1024_d0_w32 (ix2 16 1024 h c) = BitVec.ofNat 32 h.val := by
  show BitVec.ofNat 32 (0 * 16 + h.val) = _
  rw [Nat.zero_mul, Nat.zero_add]

/-- The first call's mask: one where the column is the head's, zero elsewhere. -/
theorem k0_mask (h : Fin 16) (c : Fin 1024) :
    k0_pay7 (F := Ideal) (ix2 16 1024 h c) = if c.val / 64 = h.val then 1 else 0 := by
  have e : k0_pay7 (F := Ideal) (ix2 16 1024 h c)
      = ((((IntOp.cmpi .eq (headWord (iota .tc S16x1024 32 [1] iota_S16x1024_d1_w32 (ix2 16 1024 h c)))
          (iota .tc S16x1024 32 [0] iota_S16x1024_d0_w32 (ix2 16 1024 h c))).setWidth 32).toInt : ℝ) : EReal) := by
    unfold headWord
    simp only [k0_pay7]
    rfl
  rw [e, iota_col, iota_head, entry_eq]
  split <;> simp

/-- The second call's mask is the same. -/
theorem k1_mask (h : Fin 16) (c : Fin 1024) :
    mask (F := Ideal) (ix2 16 1024 h c) = if c.val / 64 = h.val then 1 else 0 := by
  have e : mask (F := Ideal) (ix2 16 1024 h c)
      = ((((IntOp.cmpi .eq (headWord (iota .tc S16x1024 32 [1] iota_S16x1024_d1_w32 (ix2 16 1024 h c)))
          (iota .tc S16x1024 32 [0] iota_S16x1024_d0_w32 (ix2 16 1024 h c))).setWidth 32).toInt : ℝ) : EReal) := by
    unfold headWord mask
    simp only [k1_pay8, k1_pay5, k1_pay6, k1_pay7]
    rfl
  rw [e, iota_col, iota_head, entry_eq]
  split <;> simp

theorem col_div (h : Fin 16) (d : Fin 64) : (col h d).val / 64 = h.val := by
  have := d.isLt
  show (64 * h.val + d.val) / 64 = h.val
  omega

/-- Against the mask of head `h`, a sum over the columns keeps the head's own. -/
theorem sum_masked (h : Fin 16) (f : Fin 1024 → EReal) (g : EReal → EReal → EReal) (hg0 : ∀ x, g 0 x = 0) (hg1 : ∀ x, g 1 x = x) :
    ∑ c : Fin 1024, g (if c.val / 64 = h.val then 1 else 0) (f c) = ∑ d : Fin 64, f (col h d) := by
  rw [sum_col, Finset.sum_eq_single h]
  · exact Finset.sum_congr rfl fun d _ => by rw [if_pos (col_div h d), hg1]
  · intro h' _ hne
    refine Finset.sum_eq_zero fun d _ => ?_
    rw [if_neg (by rw [col_div]; exact fun e => hne (Fin.ext e)), hg0]
  · exact fun hn => absurd (Finset.mem_univ _) hn

/-- Against the mask at a column of head `h`, a sum over the heads keeps that head. -/
theorem sum_heads (h : Fin 16) (d : Fin 64) (f : Fin 16 → EReal) :
    ∑ h' : Fin 16, f h' * (if (col h d).val / 64 = h'.val then 1 else 0) = f h := by
  rw [Finset.sum_eq_single h]
  · rw [if_pos (col_div h d), mul_one]
  · intro h' _ hne
    rw [if_neg (by rw [col_div]; exact fun e => hne (Fin.ext e).symm), mul_zero]
  · exact fun hn => absurd (Finset.mem_univ _) hn

end Cert.Attn

end
-- ==== Proof.Value.Softmax.lean ====
/- Softmax attention of one query, computed in parts. A part holds, for a set of keys, a reference score `m`, the sum
   `l` of the exponentials of the scores less `m`, and the sum `o` of the values so weighted. Two parts of disjoint key
   sets merge into one of their union, and the part of all keys gives the softmax-weighted sum of the values. The
   scores are real; the values may be infinite, so `o` is an extended real. -/
module

public import Idealize.ShloMosaic.PureOps.Ideal
public import Mathlib.Data.EReal.Inv

@[expose] public section

noncomputable section

namespace Cert.Attn

open Idealize.ShloMosaic
open scoped BigOperators

/-- Multiplying by a nonnegative real goes through a finite sum of extended reals. -/
theorem sum_mul_real {κ : Type} (S : Finset κ) (f : κ → EReal) {r : ℝ} (hr : 0 ≤ r) :
    (∑ k ∈ S, f k) * (r : EReal) = ∑ k ∈ S, f k * (r : EReal) := by
  let φ : EReal →+ EReal :=
    { toFun := fun x => x * (r : EReal)
      map_zero' := zero_mul _
      map_add' := fun x y => EReal.right_distrib_of_nonneg_of_ne_top (by exact_mod_cast hr) (EReal.coe_ne_top r) x y }
  exact map_sum φ f S

/-- A finite sum of reals, read among the extended reals. -/
theorem coe_sum {κ : Type} (S : Finset κ) (f : κ → ℝ) : ((∑ k ∈ S, f k : ℝ) : EReal) = ∑ k ∈ S, (f k : EReal) := by
  let φ : ℝ →+ EReal := { toFun := fun x => (x : EReal), map_zero' := EReal.coe_zero, map_add' := EReal.coe_add }
  exact map_sum φ f S

variable {κ : Type} [DecidableEq κ]

/-- What a part of the attention holds of the keys `S`: a real reference score, the sum of the weights, and the
    weighted sum of the values. -/
def Holds (S : Finset κ) (s : κ → ℝ) (v : κ → EReal) (o m l : EReal) : Prop :=
  ∃ M : ℝ, m = (M : EReal) ∧ l = ((∑ k ∈ S, Real.exp (s k - M) : ℝ) : EReal) ∧ o = ∑ k ∈ S, v k * (Real.exp (s k - M) : EReal)

/-- The softmax-weighted sum of the values over the keys `S`. -/
def soft (S : Finset κ) (s : κ → ℝ) (v : κ → EReal) : EReal :=
  ∑ k ∈ S, v k * ((Real.exp (s k) / ∑ j ∈ S, Real.exp (s j) : ℝ) : EReal)

/-- Moving a part's weights to another reference score. -/
theorem rescale_o (S : Finset κ) (s : κ → ℝ) (v : κ → EReal) (M N : ℝ) :
    (∑ k ∈ S, v k * (Real.exp (s k - M) : EReal)) * (Real.exp (M - N) : EReal) = ∑ k ∈ S, v k * (Real.exp (s k - N) : EReal) := by
  rw [sum_mul_real S _ (Real.exp_pos _).le]
  refine Finset.sum_congr rfl fun k _ => ?_
  rw [mul_assoc, ← EReal.coe_mul, ← Real.exp_add, sub_add_sub_cancel]

/-- The same of the sum of the weights. -/
theorem rescale_l (S : Finset κ) (s : κ → ℝ) (M N : ℝ) :
    ((∑ k ∈ S, Real.exp (s k - M) : ℝ) : EReal) * (Real.exp (M - N) : EReal) = ((∑ k ∈ S, Real.exp (s k - N) : ℝ) : EReal) := by
  rw [← EReal.coe_mul, Finset.sum_mul]
  refine congrArg _ (Finset.sum_congr rfl fun k _ => ?_)
  rw [← Real.exp_add, sub_add_sub_cancel]

/-- Two parts of disjoint key sets, brought to the larger reference score and added, are a part of the union. -/
theorem Holds.merge {S T : Finset κ} (hST : Disjoint S T) {s : κ → ℝ} {v : κ → EReal} {o m l o' m' l' : EReal}
    (h : Holds S s v o m l) (h' : Holds T s v o' m' l') :
    Holds (S ∪ T) s v (o * Ideal.exp (m - max m m') + o' * Ideal.exp (m' - max m m')) (max m m')
      (l * Ideal.exp (m - max m m') + l' * Ideal.exp (m' - max m m')) := by
  obtain ⟨M, rfl, rfl, rfl⟩ := h
  obtain ⟨M', rfl, rfl, rfl⟩ := h'
  have hmax : max (M : EReal) (M' : EReal) = ((max M M' : ℝ) : EReal) := (EReal.coe_strictMono.monotone.map_max).symm
  refine ⟨max M M', hmax, ?_, ?_⟩
  · rw [hmax, ← EReal.coe_sub, ← EReal.coe_sub, Ideal.exp_coe, Ideal.exp_coe, rescale_l, rescale_l, ← EReal.coe_add, Finset.sum_union hST]
  · rw [hmax, ← EReal.coe_sub, ← EReal.coe_sub, Ideal.exp_coe, Ideal.exp_coe, rescale_o, rescale_o, Finset.sum_union hST]

/-- A weight over the sum of the weights does not depend on the reference score. -/
theorem ratio (S : Finset κ) (s : κ → ℝ) (M : ℝ) (k : κ) :
    Real.exp (s k - M) * (1 / ∑ j ∈ S, Real.exp (s j - M)) = Real.exp (s k) / ∑ j ∈ S, Real.exp (s j) := by
  have hs : ∑ j ∈ S, Real.exp (s j - M) = (∑ j ∈ S, Real.exp (s j)) * Real.exp (-M) := by
    rw [Finset.sum_mul]
    exact Finset.sum_congr rfl fun j _ => by rw [← Real.exp_add, sub_eq_add_neg]
  rw [hs, sub_eq_add_neg, Real.exp_add, mul_one_div]
  exact mul_div_mul_right _ _ (Real.exp_pos _).ne'

/-- The sum of the weights of a nonempty set of keys is positive. -/
theorem total_pos {S : Finset κ} (hS : S.Nonempty) (s : κ → ℝ) : 0 < ∑ j ∈ S, Real.exp (s j) :=
  Finset.sum_pos (fun _ _ => Real.exp_pos _) hS

/-- A part's numerator over its denominator is the softmax-weighted sum. -/
theorem Holds.value {S : Finset κ} (hS : S.Nonempty) {s : κ → ℝ} {v : κ → EReal} {o m l : EReal} (h : Holds S s v o m l) :
    Ideal.div o l = soft S s v := by
  obtain ⟨M, -, rfl, rfl⟩ := h
  have hpos := total_pos hS fun k => s k - M
  rw [Ideal.div_coe hpos.ne', sum_mul_real S _ (one_div_pos.2 hpos).le]
  refine Finset.sum_congr rfl fun k _ => ?_
  rw [mul_assoc, ← EReal.coe_mul, ratio]

/-- Normalising each weight first gives the same. -/
theorem soft_of_weights {S : Finset κ} (hS : S.Nonempty) (s : κ → ℝ) (v : κ → EReal) (M : ℝ) :
    ∑ k ∈ S, v k * Ideal.div (Real.exp (s k - M) : EReal) ((∑ j ∈ S, Real.exp (s j - M) : ℝ) : EReal) = soft S s v := by
  have hpos := total_pos hS fun k => s k - M
  refine Finset.sum_congr rfl fun k _ => ?_
  rw [Ideal.div_coe hpos.ne', ← EReal.coe_mul, ratio]

/-- The largest of finitely many reals, taken from minus infinity, is real. -/
theorem fold_max_real {S : Finset κ} (hS : S.Nonempty) (s : κ → ℝ) :
    ∃ M : ℝ, S.fold max (⊥ : EReal) (fun k => (s k : EReal)) = (M : EReal) := by
  induction hS using Finset.Nonempty.cons_induction with
  | singleton a => exact ⟨s a, by rw [Finset.fold_singleton]; exact max_bot_right _⟩
  | cons a S ha _ ih =>
    obtain ⟨M, hM⟩ := ih
    exact ⟨max (s a) M, by rw [Finset.fold_cons, hM]; exact (EReal.coe_strictMono.monotone.map_max).symm⟩

end Cert.Attn

end
-- ==== Proof.Value.Block.lean ====
/- What one block computes: of one batch, a query of sixteen heads, 256 keys and their values. Per head, the block's
   three results are a part of the attention (`Holds`) over the 256 keys. -/
module

public import proofs.«01_k».proof.Proof.Value.Heads
public import proofs.«01_k».proof.Proof.Value.Softmax

@[expose] public section

noncomputable section

namespace Cert.Attn

open Idealize.ShloMosaic Cert.KernelIdeal Cert.KernelIdeal.Gen Cert.KernelIdeal.Comb
open Idealize.ShloMosaic.ValueIdx (contrEquiv1 contrEquiv1_symm_val)
open scoped BigOperators

/-- The bit pattern of one eighth. -/
theorem ofBits_eighth : Ideal.ofBits .f32 0x3E000000#32 = (((1 : ℝ) / 8 : ℝ) : EReal) := by
  simp [Ideal.ofBits, Ideal.ieee, -EReal.coe_mul]; norm_num

/-- The bit pattern of minus infinity. -/
theorem ofBits_bot : Ideal.ofBits .f32 0xFF800000#32 = (⊥ : EReal) := by
  simp [Ideal.ofBits, Ideal.ieee]

/-- The index of a vector with coordinate `a`. -/
def ix1 (n : Nat) (a : Fin n) : (⟨1, ![n]⟩ : Shape).Idx
  | ⟨0, _⟩ => a

/-! ## The block's two products -/

/-- Rows against columns, summed over the 1024 columns. -/
theorem dot_cols (l : FVec Ideal S16x1024 .f32) (r : FVec Ideal S1024x256 .f32) (h : Fin 16) (k : Fin 256) :
    matmul dot_S16x1024_S1024x256_S16x256_1_0_0_1_n_n none l r (constant S16x256 .f32 0x00000000#32) (ix2 16 256 h k)
      = ∑ c : Fin 1024, l (ix2 16 1024 h c) * r (ix2 1024 256 c k) := by
  refine (Ideal.matmul_constant_zero_apply _ _ l r _).trans ?_
  rw [← Equiv.sum_comp (contrEquiv1 dot_S16x1024_S1024x256_S16x256_1_0_0_1_n_n 1024 rfl rfl).symm]
  refine Finset.sum_congr rfl fun c _ => congrArg₂ (· * ·) (congrArg l (funext fun a => Fin.ext ?_)) (congrArg r (funext fun a => Fin.ext ?_))
  · match a with
    | 0 => rfl
    | 1 => exact contrEquiv1_symm_val dot_S16x1024_S1024x256_S16x256_1_0_0_1_n_n 1024 rfl rfl c
  · match a with
    | 0 => exact contrEquiv1_symm_val dot_S16x1024_S1024x256_S16x256_1_0_0_1_n_n 1024 rfl rfl c
    | 1 => rfl

/-- Rows against rows, summed over the 256 keys. -/
theorem dot_keys (l : FVec Ideal S16x256 .f32) (r : FVec Ideal S1024x256 .f32) (h : Fin 16) (c : Fin 1024) :
    matmul dot_S16x256_S1024x256_S16x1024_1_1_0_0_n_n none l r (constant S16x1024 .f32 0x00000000#32) (ix2 16 1024 h c)
      = ∑ k : Fin 256, l (ix2 16 256 h k) * r (ix2 1024 256 c k) := by
  refine (Ideal.matmul_constant_zero_apply _ _ l r _).trans ?_
  rw [← Equiv.sum_comp (contrEquiv1 dot_S16x256_S1024x256_S16x1024_1_1_0_0_n_n 256 rfl rfl).symm]
  refine Finset.sum_congr rfl fun k _ => congrArg₂ (· * ·) (congrArg l (funext fun a => Fin.ext ?_)) (congrArg r (funext fun a => Fin.ext ?_))
  · match a with
    | 0 => rfl
    | 1 => exact contrEquiv1_symm_val dot_S16x256_S1024x256_S16x1024_1_1_0_0_n_n 256 rfl rfl k
  · match a with
    | 0 => rfl
    | 1 => exact contrEquiv1_symm_val dot_S16x256_S1024x256_S16x1024_1_1_0_0_n_n 256 rfl rfl k

/-! ## The block's values at an index -/

/-- A flattened array at head `h`, channel `d`. -/
theorem flat_apply (k : Vec Ideal S1x16x64x256 .f32) (h : Fin 16) (d : Fin 64) (j : Fin 256) :
    flat k (ix2 1024 256 (col h d) j) = k (ix4 1 16 64 256 0 h d j) := by
  unfold flat
  refine (shapeCast_apply _ _ (ix2 1024 256 (col h d) j) (ix3 16 64 256 h d j) ?_).trans
    (shapeCast_apply k _ (ix3 16 64 256 h d j) (ix4 1 16 64 256 0 h d j) ?_)
  · refine (Shape.rowMajor_val_three _).trans (Eq.trans ?_ (Shape.rowMajor_val_two _).symm)
    show (h.val * 64 + d.val) * 256 + j.val = (64 * h.val + d.val) * 256 + j.val
    omega
  · refine (Shape.rowMajor_val_four _).trans (Eq.trans ?_ (Shape.rowMajor_val_three _).symm)
    show ((0 * 16 + h.val) * 64 + d.val) * 256 + j.val = (h.val * 64 + d.val) * 256 + j.val
    omega

/-- The query, repeated down the heads. -/
theorem query_apply (q : Vec Ideal S1x1x1024 .f32) (h : Fin 16) (c : Fin 1024) :
    broadcastTo S16x1024 (shapeCast S1x1024 q shapeCasts_S1x1x1024_S1x1024) broadcasts_S1x1024_S16x1024 (ix2 16 1024 h c)
      = q (ix3 1 1 1024 0 0 c) := by
  refine (broadcastTo_apply _ _ (ix2 16 1024 h c) (ix2 1 1024 0 c) fun a => ?_).trans
    (shapeCast_apply q _ (ix2 1 1024 0 c) (ix3 1 1 1024 0 0 c) ?_)
  · match a with
    | 0 => rfl
    | 1 => rfl
  · refine (Shape.rowMajor_val_three _).trans (Eq.trans ?_ (Shape.rowMajor_val_two _).symm)
    show (0 * 1 + 0) * 1024 + c.val = 0 * 1024 + c.val
    omega

/-- A score is an eighth of the product of query and key over the head's channels. -/
theorem scores_apply (q : Vec Ideal S1x1x1024 .f32) (k : Vec Ideal S1x16x64x256 .f32) (h : Fin 16) (j : Fin 256) :
    scores q k (ix2 16 256 h j)
      = (∑ d : Fin 64, q (ix3 1 1 1024 0 0 (col h d)) * k (ix4 1 16 64 256 0 h d j)) * (((1 : ℝ) / 8 : ℝ) : EReal) := by
  have e : scores q k (ix2 16 256 h j)
      = (matmul dot_S16x1024_S1024x256_S16x256_1_0_0_1_n_n none
      (mulf (k0_pay7 (F := Ideal)) (broadcastTo S16x1024 (shapeCast S1x1024 q shapeCasts_S1x1x1024_S1x1024) broadcasts_S1x1024_S16x1024))
      (flat k) (constant S16x256 .f32 0x00000000#32) (ix2 16 256 h j) : EReal) * Ideal.ofBits .f32 0x3E000000#32 := rfl
  rw [e, dot_cols, ofBits_eighth]
  refine congrArg (· * _) ?_
  refine Eq.trans (Finset.sum_congr rfl fun c _ => ?_)
    ((sum_masked h (fun c => q (ix3 1 1 1024 0 0 c) * flat k (ix2 1024 256 c j)) (· * ·) zero_mul one_mul).trans
      (Finset.sum_congr rfl fun d _ => by rw [flat_apply]))
  show (k0_pay7 (F := Ideal) (ix2 16 1024 h c) * _) * _ = _
  rw [k0_mask, query_apply, mul_assoc]

/-- The largest score of a head whose scores are real is real. -/
theorem top_real (s : FVec Ideal S16x256 .f32) (h : Fin 16) (r : Fin 256 → ℝ) (hr : ∀ j, s (ix2 16 256 h j) = (r j : EReal)) :
    ∃ M : ℝ, top s (ix2 16 1 h 0) = (M : EReal) := by
  obtain ⟨M, hM⟩ := fold_max_real (Finset.univ_nonempty (α := Fin 256)) r
  refine ⟨M, ?_⟩
  unfold top
  refine (shapeCast_apply _ _ (ix2 16 1 h 0) (ix1 16 h) ?_).trans ?_
  · refine (Shape.rowMajor_val_one _).trans (Eq.trans ?_ (Shape.rowMajor_val_two _).symm)
    show h.val = h.val * 1 + 0
    omega
  refine (Ideal.multiReduction_maximumf_single s _ _ _ _ _).trans ?_
  rw [← hM]
  show Finset.fold max (Ideal.ofBits .f32 0xFF800000#32) _ _ = _
  rw [ofBits_bot]
  refine congrArg (fun f => Finset.fold max (⊥ : EReal) f Finset.univ) (funext fun j => ?_)
  refine Eq.trans (congrArg s (funext fun a => Fin.ext ?_)) (hr j)
  match a with
  | 0 => rfl
  | 1 => rfl

/-- A weight is the exponential of the score less the largest. -/
theorem weights_apply (s : FVec Ideal S16x256 .f32) (h : Fin 16) (j : Fin 256) :
    weights s (ix2 16 256 h j) = Ideal.exp (s (ix2 16 256 h j) - top s (ix2 16 1 h 0)) := by
  have e : broadcastTo S16x256 (top s) broadcasts_S16x1_S16x256 (ix2 16 256 h j) = top s (ix2 16 1 h 0) :=
    broadcastTo_apply _ _ _ _ fun a => by
      match a with
      | 0 => rfl
      | 1 => rfl
  show Ideal.exp (s (ix2 16 256 h j) - _) = _
  rw [e]

/-- One head's term in the numerator: its weights against the channel's values, kept when the channel is the head's. -/
theorem outO_term (s : FVec Ideal S16x256 .f32) (v : Vec Ideal S1x16x64x256 .f32) (h : Fin 16) (d : Fin 64) (h' : Fin 16) :
    mulf (matmul dot_S16x256_S1024x256_S16x1024_1_1_0_0_n_n none (weights s) (flat v) (constant S16x1024 .f32 0x00000000#32))
      (k0_pay7 (F := Ideal)) (reduces_S16x1024_S1024.lift (ix1 1024 (col h d)) h')
      = (∑ j : Fin 256, weights s (ix2 16 256 h' j) * flat v (ix2 1024 256 (col h d) j)) * (if (col h d).val / 64 = h'.val then (1 : EReal) else 0) := by
  have e : reduces_S16x1024_S1024.lift (ix1 1024 (col h d)) h' = ix2 16 1024 h' (col h d) := funext fun a => Fin.ext (by
    match a with
    | 0 => rfl
    | 1 => rfl)
  rw [e, ← dot_keys (weights s) (flat v) h' (col h d), ← k0_mask]
  rfl

/-- The numerator at channel `d` of head `h`: the values under the head's weights. -/
theorem outO_apply (s : FVec Ideal S16x256 .f32) (v : Vec Ideal S1x16x64x256 .f32) (h : Fin 16) (d : Fin 64) :
    outO s v (ix3 1 1 1024 0 0 (col h d)) = ∑ j : Fin 256, v (ix4 1 16 64 256 0 h d j) * weights s (ix2 16 256 h j) := by
  unfold outO
  refine (shapeCast_apply _ _ (ix3 1 1 1024 0 0 (col h d)) (ix2 1 1024 0 (col h d)) ?_).trans
    ((shapeCast_apply _ _ (ix2 1 1024 0 (col h d)) (ix1 1024 (col h d)) ?_).trans ?_)
  · refine (Shape.rowMajor_val_two _).trans (Eq.trans ?_ (Shape.rowMajor_val_three _).symm)
    show 0 * 1024 + (col h d).val = (0 * 1 + 0) * 1024 + (col h d).val
    omega
  · refine (Shape.rowMajor_val_one _).trans (Eq.trans ?_ (Shape.rowMajor_val_two _).symm)
    show (col h d).val = 0 * 1024 + (col h d).val
    omega
  refine (Ideal.multiReduction_add_single _ _ _ _ _ _).trans ?_
  refine Eq.trans (Finset.sum_congr rfl fun h' _ => outO_term s v h d h')
    ((sum_heads h d fun h' => ∑ j : Fin 256, weights s (ix2 16 256 h' j) * flat v (ix2 1024 256 (col h d) j)).trans
      (Finset.sum_congr rfl fun j _ => by rw [flat_apply, mul_comm]))

/-- The block's maxima. -/
theorem outM_apply (s : FVec Ideal S16x256 .f32) (h : Fin 16) : outM s (ix3 1 16 1 0 h 0) = top s (ix2 16 1 h 0) := by
  unfold outM
  refine shapeCast_apply _ _ (ix3 1 16 1 0 h 0) (ix2 16 1 h 0) ?_
  refine (Shape.rowMajor_val_two _).trans (Eq.trans ?_ (Shape.rowMajor_val_three _).symm)
  show h.val * 1 + 0 = (0 * 16 + h.val) * 1 + 0
  omega

/-- The block's denominators. -/
theorem outL_apply (s : FVec Ideal S16x256 .f32) (h : Fin 16) : outL s (ix3 1 16 1 0 h 0) = ∑ j : Fin 256, weights s (ix2 16 256 h j) := by
  unfold outL
  refine (shapeCast_apply _ _ (ix3 1 16 1 0 h 0) (ix2 16 1 h 0) ?_).trans
    ((shapeCast_apply _ _ (ix2 16 1 h 0) (ix1 16 h) ?_).trans ?_)
  · refine (Shape.rowMajor_val_two _).trans (Eq.trans ?_ (Shape.rowMajor_val_three _).symm)
    show h.val * 1 + 0 = (0 * 16 + h.val) * 1 + 0
    omega
  · refine (Shape.rowMajor_val_one _).trans (Eq.trans ?_ (Shape.rowMajor_val_two _).symm)
    show h.val = h.val * 1 + 0
    omega
  refine (Ideal.multiReduction_add_single _ _ _ _ _ _).trans (Finset.sum_congr rfl fun j _ => ?_)
  refine congrArg (weights s) (funext fun a => Fin.ext ?_)
  match a with
  | 0 => rfl
  | 1 => rfl

/-- A block whose scores are real computes, per head and channel, a part of the attention over its 256 keys. -/
theorem block_holds (s : FVec Ideal S16x256 .f32) (v : Vec Ideal S1x16x64x256 .f32) (h : Fin 16) (d : Fin 64) (r : Fin 256 → ℝ)
    (hr : ∀ j, s (ix2 16 256 h j) = (r j : EReal)) :
    Holds Finset.univ r (fun j => v (ix4 1 16 64 256 0 h d j)) (outO s v (ix3 1 1 1024 0 0 (col h d))) (outM s (ix3 1 16 1 0 h 0))
      (outL s (ix3 1 16 1 0 h 0)) := by
  obtain ⟨M, hM⟩ := top_real s h r hr
  have hw : ∀ j, weights s (ix2 16 256 h j) = (Real.exp (r j - M) : EReal) := fun j => by
    rw [weights_apply, hr, hM, ← EReal.coe_sub, Ideal.exp_coe]
  refine ⟨M, (outM_apply s h).trans hM, ?_, ?_⟩
  · rw [outL_apply, coe_sum]; exact Finset.sum_congr rfl fun j _ => hw j
  · rw [outO_apply]; exact Finset.sum_congr rfl fun j _ => by rw [hw j]

end Cert.Attn

end
-- ==== Proof.Value.Attention.lean ====
/- The attention as plain mathematics: one query per batch and head over 2048 keys, the scores real numbers, the values
   extended reals. -/
module

public import proofs.«01_k».proof.Proof.Value.Block

@[expose] public section

noncomputable section

namespace Cert.Attn

open Idealize.ShloMosaic Cert.KernelIdeal.Comb
open scoped BigOperators

/-- Neither infinity occurs in the array. -/
def Finite {ι : Type} (x : ι → EReal) : Prop := ∀ i, x i ≠ ⊤ ∧ x i ≠ ⊥

/-- The score of key `k` for the query of batch `b`, head `h`: an eighth of their product over the head's channels. -/
def sc (Q : (⟨4, ![16, 1, 16, 64]⟩ : Shape).Idx → EReal) (K : (⟨4, ![16, 2048, 16, 64]⟩ : Shape).Idx → EReal)
    (b h : Fin 16) (k : Fin 2048) : ℝ :=
  (∑ d : Fin 64, (Q (ix4 16 1 16 64 b 0 h d)).toReal * (K (ix4 16 2048 16 64 b k h d)).toReal) * (1 / 8)

/-- The value of key `k` at batch `b`, head `h`, channel `d`. -/
def vl (V : (⟨4, ![16, 2048, 16, 64]⟩ : Shape).Idx → EReal) (b h : Fin 16) (d : Fin 64) (k : Fin 2048) : EReal :=
  V (ix4 16 2048 16 64 b k h d)

/-- An eighth of a sum of products of finite extended reals is the real number of the same form. -/
theorem eighth_real (q k : Fin 64 → EReal) (hq : Finite q) (hk : Finite k) :
    (∑ d, q d * k d) * (((1 : ℝ) / 8 : ℝ) : EReal) = (((∑ d, (q d).toReal * (k d).toReal) * (1 / 8) : ℝ) : EReal) := by
  rw [EReal.coe_mul, coe_sum]
  refine congrArg (· * _) (Finset.sum_congr rfl fun d _ => ?_)
  rw [EReal.coe_mul, EReal.coe_toReal (hq d).1 (hq d).2, EReal.coe_toReal (hk d).1 (hk d).2]

/-- With queries and keys finite, the score as computed is the real score. -/
theorem score_real {Q : (⟨4, ![16, 1, 16, 64]⟩ : Shape).Idx → EReal} {K : (⟨4, ![16, 2048, 16, 64]⟩ : Shape).Idx → EReal}
    (hQ : Finite Q) (hK : Finite K) (b h : Fin 16) (k : Fin 2048) :
    (∑ d : Fin 64, Q (ix4 16 1 16 64 b 0 h d) * K (ix4 16 2048 16 64 b k h d)) * (((1 : ℝ) / 8 : ℝ) : EReal) = (sc Q K b h k : EReal) :=
  eighth_real _ _ (fun _ => hQ _) (fun _ => hK _)

end Cert.Attn

end
-- ==== Proof.Value.Merge.lean ====
/- What the three exchanges compute: a part of the attention per device, merged with the peer's at each exchange, covers
   after the third the keys of all eight devices, and its value is the attention over them. -/
module

public import proofs.«01_k».proof.Proof.Value.Block
public import proofs.«01_k».proof.Proof.KernelIdeal.Part

@[expose] public section

noncomputable section

namespace Cert.Attn

open Idealize.ShloMosaic Cert.KernelIdeal Cert.KernelIdeal.Gen Cert.KernelIdeal.Comb
open Idealize.ShloMosaic.ValueIdx (contrEquiv1 contrEquiv1_symm_val)
open scoped BigOperators

/-- A row of per-head values spread over the columns gives each column its head's value. -/
theorem spread_apply (x : FVec Ideal S16x16 .f32) (b h : Fin 16) (d : Fin 64) :
    spread x (ix2 16 1024 b (col h d)) = x (ix2 16 16 b h) := by
  unfold spread
  refine (Ideal.matmul_constant_zero_apply _ _ x mask _).trans ?_
  rw [← Equiv.sum_comp (contrEquiv1 dot_S16x16_S16x1024_S16x1024_1_0_0_1_n_n 16 rfl rfl).symm]
  refine Eq.trans (Finset.sum_congr rfl fun h' _ => ?_) (sum_heads h d fun h' => x (ix2 16 16 b h'))
  rw [← k1_mask]
  refine congrArg₂ (· * ·) (congrArg x (funext fun a => Fin.ext ?_)) (congrArg mask (funext fun a => Fin.ext ?_))
  · match a with
    | 0 => rfl
    | 1 => exact contrEquiv1_symm_val dot_S16x16_S16x1024_S16x1024_1_0_0_1_n_n 16 rfl rfl h'
  · match a with
    | 0 => exact contrEquiv1_symm_val dot_S16x16_S16x1024_S16x1024_1_0_0_1_n_n 16 rfl rfl h'
    | 1 => rfl

/-- The partial result `a` is, at every batch, head and channel, the part of the attention over the keys `S`. -/
def Good (S : Finset (Fin 2048)) (s : Fin 16 → Fin 16 → Fin 2048 → ℝ) (v : Fin 16 → Fin 16 → Fin 64 → Fin 2048 → EReal)
    (a : Part Ideal) : Prop :=
  ∀ b h d, Holds S (s b h) (v b h d) (a.o (ix2 16 1024 b (col h d))) (a.m (ix2 16 16 b h)) (a.l (ix2 16 16 b h))

variable {s : Fin 16 → Fin 16 → Fin 2048 → ℝ} {v : Fin 16 → Fin 16 → Fin 64 → Fin 2048 → EReal}

/-- Two parts over disjoint keys merge into the part over both. -/
theorem Good.merge {S T : Finset (Fin 2048)} (hST : Disjoint S T) {a a' : Part Ideal} (ha : Good S s v a) (ha' : Good T s v a') :
    Good (S ∪ T) s v (a.merge a') := fun b h d => by
  have e : (a.merge a').o (ix2 16 1024 b (col h d))
      = a.o (ix2 16 1024 b (col h d)) * Ideal.exp (a.m (ix2 16 16 b h) - max (a.m (ix2 16 16 b h)) (a'.m (ix2 16 16 b h)))
        + a'.o (ix2 16 1024 b (col h d)) * Ideal.exp (a'.m (ix2 16 16 b h) - max (a.m (ix2 16 16 b h)) (a'.m (ix2 16 16 b h))) := by
    show a.o (ix2 16 1024 b (col h d)) * spread _ (ix2 16 1024 b (col h d)) + a'.o (ix2 16 1024 b (col h d)) * spread _ (ix2 16 1024 b (col h d)) = _
    rw [spread_apply, spread_apply]
    rfl
  rw [e]
  exact (ha b h d).merge hST (ha' b h d)

/-- The value of a part over some keys is the attention over them. -/
theorem Good.value {S : Finset (Fin 2048)} (hS : S.Nonempty) {a : Part Ideal} (ha : Good S s v a) (b h : Fin 16) (d : Fin 64) :
    a.value (ix2 16 1024 b (col h d)) = soft S (s b h) (v b h d) := by
  show Ideal.div (a.o (ix2 16 1024 b (col h d))) (spread a.l (ix2 16 1024 b (col h d))) = _
  rw [spread_apply]
  exact (ha b h d).value hS

/-! ## The exchanges -/

/-- The devices whose entries device `c` has gathered before exchange `n`. -/
def cover : ℕ → Dev nD → Finset (Dev nD)
  | 0, c => {c}
  | n + 1, c => cover n c ∪ cover n (peer (if h : n < 3 then ⟨n, h⟩ else 0) c)

/-- At each exchange a device and its peer have gathered from different devices. -/
theorem cover_disjoint : ∀ (h : Fin 3) (c : Dev nD), Disjoint (cover h.val c) (cover h.val (peer h c)) := by decide

/-- After the three exchanges every device's entry is gathered. -/
theorem cover_all : ∀ c : Dev nD, cover 3 c = Finset.univ := by decide

/-- The keys of a set of devices. -/
def keysOf (owner : Fin 2048 → Dev nD) (D : Finset (Dev nD)) : Finset (Fin 2048) := Finset.univ.filter fun k => owner k ∈ D

/-- If each device enters with the part over its own keys, it holds before exchange `n` the part over the keys of the
    devices it has gathered from. -/
theorem gathered_good (owner : Fin 2048 → Dev nD) (e : Dev nD → Part Ideal) (he : ∀ c, Good (keysOf owner {c}) s v (e c)) :
    ∀ n, n ≤ 3 → ∀ c, Good (keysOf owner (cover n c)) s v (gathered e n c) := by
  intro n
  induction n with
  | zero => exact fun _ c => he c
  | succ n ih =>
    intro hn c
    have hlt : n < 3 := hn
    have hc : cover (n + 1) c = cover n c ∪ cover n (peer ⟨n, hlt⟩ c) := by
      show cover n c ∪ cover n (peer (if h : n < 3 then ⟨n, h⟩ else 0) c) = _
      rw [dif_pos hlt]
    have hk : keysOf owner (cover (n + 1) c) = keysOf owner (cover n c) ∪ keysOf owner (cover n (peer ⟨n, hlt⟩ c)) := by
      rw [hc]
      ext k
      simp [keysOf]
    have hd : Disjoint (keysOf owner (cover n c)) (keysOf owner (cover n (peer ⟨n, hlt⟩ c))) := by
      refine Finset.disjoint_left.2 fun k h₁ h₂ => ?_
      exact Finset.disjoint_left.1 (cover_disjoint ⟨n, hlt⟩ c) (Finset.mem_filter.1 h₁).2 (Finset.mem_filter.1 h₂).2
    rw [hk, show gathered e (n + 1) c = _ from gathered_succ e ⟨n, hlt⟩ c]
    exact (ih hlt.le c).merge hd (ih hlt.le _)

/-- After the three exchanges each device's value is the attention over all the keys. -/
theorem gathered_value (owner : Fin 2048 → Dev nD) (e : Dev nD → Part Ideal) (he : ∀ c, Good (keysOf owner {c}) s v (e c))
    (c : Dev nD) (b h : Fin 16) (d : Fin 64) :
    (gathered e 3 c).value (ix2 16 1024 b (col h d)) = soft Finset.univ (s b h) (v b h d) := by
  have hg := gathered_good owner e he 3 le_rfl c
  have hu : keysOf owner (cover 3 c) = Finset.univ := by rw [cover_all]; simp [keysOf]
  rw [hu] at hg
  exact hg.value Finset.univ_nonempty b h d

end Cert.Attn

end
-- ==== Proof.Value.Arrays.lean ====
/- What the kernel's arrays hold: with its arguments the blocks of whole queries, keys and values, each device enters the
   exchanges with the part of the attention over its own 256 keys, and ends with the attention over all 2048. -/
module

public import proofs.«01_k».proof.Proof.Value.Attention
public import proofs.«01_k».proof.Proof.Value.Merge
public import proofs.«01_k».proof.Proof.KernelIdeal.Launch

@[expose] public section

noncomputable section

namespace Cert.Attn

open Idealize.ShloMosaic hiding ix2 ix3 ix4
open Idealize.ShloMosaic.TcCoe Cert.KernelIdeal Cert.KernelIdeal.Gen Cert.KernelIdeal.Comb
open scoped BigOperators

/-! ## Whose key it is -/

/-- The device that computes key `k`. -/
def owner (k : Fin 2048) : Dev nD :=
  ⟨4 * (k.val / 256 % 4 / 2) + 2 * (k.val / 1024) + k.val / 256 % 4 % 2, by show _ < 8; omega⟩

/-- Key `j` of device `c`'s 256. -/
def keyOf (c : Dev nD) (j : Fin 256) : Fin 2048 :=
  ⟨1024 * (c.val / 2 % 2) + (256 * (part c).val + j.val), by have := (part c).isLt; omega⟩

theorem keyOf_injective (c : Dev nD) : Function.Injective (keyOf c) := fun i j h => Fin.ext (by
  have h' : 1024 * (c.val / 2 % 2) + (256 * (part c).val + i.val) = 1024 * (c.val / 2 % 2) + (256 * (part c).val + j.val) := congrArg Fin.val h
  omega)

/-- Device `c`'s keys are the 256 it numbers. -/
theorem keysOf_single (c : Dev nD) : keysOf owner {c} = Finset.univ.image (keyOf c) := by
  have hc : c.val < 8 := c.isLt
  ext k
  simp only [keysOf, Finset.mem_filter, Finset.mem_univ, true_and, Finset.mem_singleton, Finset.mem_image]
  constructor
  · intro h
    have hv : 4 * (k.val / 256 % 4 / 2) + 2 * (k.val / 1024) + k.val / 256 % 4 % 2 = c.val := congrArg Fin.val h
    have hP : k.val / 256 % 4 / 2 < 2 := by omega
    have hY : k.val / 1024 < 2 := by omega
    have hZ : k.val / 256 % 4 % 2 < 2 := Nat.mod_lt _ (by decide)
    have hk : k.val = 1024 * (k.val / 1024) + (256 * (2 * (k.val / 256 % 4 / 2) + k.val / 256 % 4 % 2) + k.val % 256) := by omega
    refine ⟨⟨k.val % 256, by omega⟩, Fin.ext ?_⟩
    show 1024 * (c.val / 2 % 2) + (256 * (2 * (c.val / 4 % 2) + c.val % 2) + k.val % 256) = k.val
    have h1 : c.val / 4 % 2 = k.val / 256 % 4 / 2 := by
      rw [← hv]; clear hk hv; generalize k.val / 256 % 4 / 2 = x, k.val / 1024 = y, k.val / 256 % 4 % 2 = z at *; omega
    have h2 : c.val / 2 % 2 = k.val / 1024 := by
      rw [← hv]; clear hk hv h1; generalize k.val / 256 % 4 / 2 = x, k.val / 1024 = y, k.val / 256 % 4 % 2 = z at *; omega
    have h3 : c.val % 2 = k.val / 256 % 4 % 2 := by
      rw [← hv]; clear hk hv h1 h2; generalize k.val / 256 % 4 / 2 = x, k.val / 1024 = y, k.val / 256 % 4 % 2 = z at *; omega
    rw [h1, h2, h3, ← hk]
  · rintro ⟨j, rfl⟩
    refine Fin.ext ?_
    have hk : (keyOf c j).val = 1024 * (c.val / 2 % 2) + (256 * (2 * (c.val / 4 % 2) + c.val % 2) + j.val) := rfl
    have hx : c.val / 4 % 2 < 2 := Nat.mod_lt _ (by decide)
    have hy : c.val / 2 % 2 < 2 := Nat.mod_lt _ (by decide)
    have hz : c.val % 2 < 2 := Nat.mod_lt _ (by decide)
    have he : c.val = 4 * (c.val / 4 % 2) + 2 * (c.val / 2 % 2) + c.val % 2 := by omega
    have h1 : (keyOf c j).val / 1024 = c.val / 2 % 2 := by rw [hk]; omega
    have h2 : (keyOf c j).val / 256 = 4 * (c.val / 2 % 2) + (2 * (c.val / 4 % 2) + c.val % 2) := by rw [hk]; omega
    show 4 * ((keyOf c j).val / 256 % 4 / 2) + 2 * ((keyOf c j).val / 1024) + (keyOf c j).val / 256 % 4 % 2 = c.val
    rw [h1, h2]
    generalize c.val / 4 % 2 = x, c.val / 2 % 2 = y, c.val % 2 = z at *
    omega

/-- A part over all of an index set is, through an injective numbering, a part over the numbers. -/
theorem Holds.image {ι κ : Type} [Fintype ι] [DecidableEq ι] [DecidableEq κ] {f : ι → κ} (hf : Function.Injective f) {s : κ → ℝ} {v : κ → EReal} {o m l : EReal}
    (h : Holds Finset.univ (fun i => s (f i)) (fun i => v (f i)) o m l) : Holds (Finset.univ.image f) s v o m l := by
  obtain ⟨M, hm, hl, ho⟩ := h
  refine ⟨M, hm, ?_, ?_⟩
  · rw [Finset.sum_image fun a _ b _ e => hf e]; exact hl
  · rw [Finset.sum_image fun a _ b _ e => hf e]; exact ho

/-! ## What a device enters the exchanges with -/

variable (m : (ℓ : Loc nD τ sig) → Buf (Elt Ideal) ℓ)

theorem past0_o (c : Dev nD) : past0 m c main_v15_0
    = (partO (F := Ideal) (V1 m c main_v3) (V1 m c main_v1) (V1 m c main_v2) (part c) : S16x1x1024.Idx → EReal) :=
  (after0_o (tabs m c) (fun _ => V1 m c) c).trans (by rw [chunk_tabs])
theorem past0_m (c : Dev nD) : past0 m c main_v15_1
    = (partM (F := Ideal) (V1 m c main_v3) (V1 m c main_v1) (part c) : S16x16x1.Idx → EReal) :=
  (after0_m (tabs m c) (fun _ => V1 m c) c).trans (by rw [chunk_tabs])
theorem past0_l (c : Dev nD) : past0 m c main_v15_2
    = (partL (F := Ideal) (V1 m c main_v3) (V1 m c main_v1) (part c) : S16x16x1.Idx → EReal) :=
  (after0_l (tabs m c) (fun _ => V1 m c) c).trans (by rw [chunk_tabs])

theorem mid_o (c : Dev nD) : mid m c main_v16
    = (shapeCast S16x1024 (past0 m c main_v15_0 : S16x1x1024.Idx → EReal) shapeCasts_S16x1x1024_S16x1024 : S16x1024.Idx → EReal) := by
  show StableHlo.after hostOps1 (past0 m c) (Proc.devRef .tc main_v16) = _
  after_results
  rfl
theorem mid_m (c : Dev nD) : mid m c main_v17
    = (shapeCast S16x16 (past0 m c main_v15_1 : S16x16x1.Idx → EReal) shapeCasts_S16x16x1_S16x16 : S16x16.Idx → EReal) := by
  show StableHlo.after hostOps1 (past0 m c) (Proc.devRef .tc main_v17) = _
  after_results
  rfl
theorem mid_l (c : Dev nD) : mid m c main_v18
    = (shapeCast S16x16 (past0 m c main_v15_2 : S16x16x1.Idx → EReal) shapeCasts_S16x16x1_S16x16 : S16x16.Idx → EReal) := by
  show StableHlo.after hostOps1 (past0 m c) (Proc.devRef .tc main_v18) = _
  after_results
  rfl

/-- Device `c`'s scores of batch `b`. -/
def blockScores (c : Dev nD) (b : Fin 16) : FVec Ideal S16x256 .f32 := scAt (V1 m c main_v3) (V1 m c main_v1) (part c) b

theorem enter_o (c : Dev nD) (b h : Fin 16) (d : Fin 64) : (enter (mid m) c).o (ix2 16 1024 b (col h d))
    = outO (blockScores m c b) (kAt (V1 m c main_v2) (part c) b) (ix3 1 1 1024 0 0 (col h d)) := by
  show mid m c main_v16 (ix2 16 1024 b (col h d)) = _
  rw [mid_o, past0_o]
  refine (shapeCast_apply _ _ (ix2 16 1024 b (col h d)) (ix3 16 1 1024 b 0 (col h d)) ?_).trans rfl
  refine (Shape.rowMajor_val_three _).trans (Eq.trans ?_ (Shape.rowMajor_val_two _).symm)
  show (b.val * 1 + 0) * 1024 + (col h d).val = b.val * 1024 + (col h d).val
  omega

theorem enter_m (c : Dev nD) (b h : Fin 16) : (enter (mid m) c).m (ix2 16 16 b h) = outM (blockScores m c b) (ix3 1 16 1 0 h 0) := by
  show mid m c main_v17 (ix2 16 16 b h) = _
  rw [mid_m, past0_m]
  refine (shapeCast_apply _ _ (ix2 16 16 b h) (ix3 16 16 1 b h 0) ?_).trans rfl
  refine (Shape.rowMajor_val_three _).trans (Eq.trans ?_ (Shape.rowMajor_val_two _).symm)
  show (b.val * 16 + h.val) * 1 + 0 = b.val * 16 + h.val
  omega

theorem enter_l (c : Dev nD) (b h : Fin 16) : (enter (mid m) c).l (ix2 16 16 b h) = outL (blockScores m c b) (ix3 1 16 1 0 h 0) := by
  show mid m c main_v18 (ix2 16 16 b h) = _
  rw [mid_l, past0_l]
  refine (shapeCast_apply _ _ (ix2 16 16 b h) (ix3 16 16 1 b h 0) ?_).trans rfl
  refine (Shape.rowMajor_val_three _).trans (Eq.trans ?_ (Shape.rowMajor_val_two _).symm)
  show (b.val * 16 + h.val) * 1 + 0 = b.val * 16 + h.val
  omega

/-! ## The arguments' blocks -/

/-- Place `j` of device `c`'s chunk in its block of 1024 keys. -/
def placeOf (c : Dev nD) (j : Fin 256) : Fin 1024 := ⟨256 * (part c).val + j.val, by have := (part c).isLt; omega⟩

/-- The query as the kernel reads it. -/
theorem query_read (c : Dev nD) (b h : Fin 16) (d : Fin 64) : qAt (F := Ideal) (V1 m c main_v3) b (ix3 1 1 1024 0 0 (col h d))
    = (m (c.tc.loc main_arg0) : S16x1x16x64.Idx → EReal) (ix4 16 1 16 64 b 0 h d) := by
  show (V1 m c main_v3 : S16x1x1024.Idx → EReal) (ix3 16 1 1024 b 0 (col h d)) = _
  rw [V1_v3]
  refine shapeCast_apply _ _ (ix3 16 1 1024 b 0 (col h d)) (ix4 16 1 16 64 b 0 h d) ?_
  refine (Shape.rowMajor_val_four _).trans (Eq.trans ?_ (Shape.rowMajor_val_three _).symm)
  show ((b.val * 1 + 0) * 16 + h.val) * 64 + d.val = (b.val * 1 + 0) * 1024 + (64 * h.val + d.val)
  omega

/-- A block's transpose as the kernel reads it. -/
theorem chunk_read (x : S16x1024x16x64.Idx → EReal) (c : Dev nD) (b h : Fin 16) (d : Fin 64) (j : Fin 256) :
    kAt (F := Ideal) (transpose S16x16x64x1024 [0, 2, 3, 1] x transposes_S16x1024x16x64_S16x16x64x1024_0_2_3_1) (part c) b (ix4 1 16 64 256 0 h d j)
      = x (ix4 16 1024 16 64 b (placeOf c j) h d) :=
  transpose_apply _ x _ (ix4 16 16 64 1024 b h d (placeOf c j)) (ix4 16 1024 16 64 b (placeOf c j) h d) fun a => by
    match a with
    | 0 => rfl
    | 1 => rfl
    | 2 => rfl
    | 3 => rfl

/-- Device `c`'s block of a whole array at a place of its chunk is the array at the key. -/
theorem block_read (x : (⟨4, ![16, 2048, 16, 64]⟩ : Shape).Idx → EReal) (c : Dev nD) (b h : Fin 16) (d : Fin 64) (j : Fin 256) :
    (Layout.blockN ⟨4, ![16, 1024, 16, 64]⟩ ⟨4, ![16, 2048, 16, 64]⟩ (Layout.meshBlock [2, 2, 2] ![[], [1], [], []] c) x
        : (⟨4, ![16, 1024, 16, 64]⟩ : Shape).Idx → EReal) (ix4 16 1024 16 64 b (placeOf c j) h d)
      = x (ix4 16 2048 16 64 b (keyOf c j) h d) := by
  refine (Layout.blockN_apply _ _ _ _).trans (congrArg x (funext fun a => Fin.ext ((Layout.TilesN.idx_val _ _ _ a).trans ?_)))
  match a with
  | 0 => show 0 * 16 + b.val = b.val; omega
  | 1 =>
    have e : ∀ c : Dev nD, Layout.meshLin [2, 2, 2] c.val [1] = c.val / 2 % 2 := by decide
    show Layout.meshLin [2, 2, 2] c.val [1] * 1024 + (256 * (part c).val + j.val) = 1024 * (c.val / 2 % 2) + (256 * (part c).val + j.val)
    rw [e]
    omega
  | 2 => show 0 * 16 + h.val = h.val; omega
  | 3 => show 0 * 64 + d.val = d.val; omega

/-! ## The part a device enters with, and what it ends with -/

variable {m}
variable {Q : (⟨4, ![16, 1, 16, 64]⟩ : Shape).Idx → EReal} {K V : (⟨4, ![16, 2048, 16, 64]⟩ : Shape).Idx → EReal}

/-- The device's arguments are its blocks of the whole arrays. -/
def Blocks (Q : (⟨4, ![16, 1, 16, 64]⟩ : Shape).Idx → EReal) (K V : (⟨4, ![16, 2048, 16, 64]⟩ : Shape).Idx → EReal)
    (m : (ℓ : Loc nD τ sig) → Buf (Elt Ideal) ℓ) (c : Dev nD) : Prop :=
  m (c.tc.loc main_arg0) = Q
  ∧ m (c.tc.loc main_arg1) = Layout.blockN ⟨4, ![16, 1024, 16, 64]⟩ ⟨4, ![16, 2048, 16, 64]⟩ (Layout.meshBlock [2, 2, 2] ![[], [1], [], []] c) K
  ∧ m (c.tc.loc main_arg2) = Layout.blockN ⟨4, ![16, 1024, 16, 64]⟩ ⟨4, ![16, 2048, 16, 64]⟩ (Layout.meshBlock [2, 2, 2] ![[], [1], [], []] c) V

/-- The device's scores are the real scores of its keys. -/
theorem blockScores_apply {c : Dev nD} (hB : Blocks Q K V m c) (hQ : Finite Q) (hK : Finite K) (b h : Fin 16) (j : Fin 256) :
    blockScores m c b (ix2 16 256 h j) = (sc Q K b h (keyOf c j) : EReal) := by
  unfold blockScores scAt
  rw [scores_apply, ← score_real hQ hK]
  refine congrArg (· * _) (Finset.sum_congr rfl fun d _ => congrArg₂ (· * ·) ?_ ?_)
  · rw [query_read, hB.1]
  · rw [V1_v1, chunk_read]
    exact (congrFun hB.2.1 _).trans (block_read K c b h d j)

/-- The values the device reads. -/
theorem values_apply {c : Dev nD} (hB : Blocks Q K V m c) (b h : Fin 16) (d : Fin 64) (j : Fin 256) :
    kAt (F := Ideal) (V1 m c main_v2) (part c) b (ix4 1 16 64 256 0 h d j) = vl V b h d (keyOf c j) := by
  rw [V1_v2, chunk_read]
  exact (congrFun hB.2.2 _).trans (block_read V c b h d j)

/-- Each device enters the exchanges with the part over its own keys. -/
theorem enter_good {c : Dev nD} (hB : Blocks Q K V m c) (hQ : Finite Q) (hK : Finite K) :
    Good (keysOf owner {c}) (sc Q K) (vl V) (enter (mid m) c) := fun b h d => by
  rw [keysOf_single, enter_o, enter_m, enter_l]
  refine Holds.image (keyOf_injective c) ?_
  have e := block_holds (blockScores m c b) (kAt (V1 m c main_v2) (part c) b) h d (fun j => sc Q K b h (keyOf c j)) (blockScores_apply hB hQ hK b h)
  rw [show (fun j => kAt (F := Ideal) (V1 m c main_v2) (part c) b (ix4 1 16 64 256 0 h d j)) = fun j => vl V b h d (keyOf c j) from
    funext fun j => values_apply hB b h d j] at e
  exact e

theorem ends_out (c : Dev nD) : ends m c main_v20
    = (shapeCast S16x1x16x64 (leave (mid m) c : S16x1024.Idx → EReal) shapeCasts_S16x1024_S16x1x16x64 : S16x1x16x64.Idx → EReal) := by
  show StableHlo.after hostOps2 (after1 (mid m) c) (Proc.devRef .tc main_v20) = _
  after_results
  rfl

/-- THE KERNEL: with queries and keys finite, device `c`'s result at batch `b`, head `h`, channel `d` is the attention over all the keys. -/
theorem kernel_apply (hB : ∀ c, Blocks Q K V m c) (hQ : Finite Q) (hK : Finite K) (c : Dev nD) (b h : Fin 16) (d : Fin 64) :
    (ends m c main_v20 : S16x1x16x64.Idx → EReal) (ix4 16 1 16 64 b 0 h d) = soft Finset.univ (sc Q K b h) (vl V b h d) := by
  rw [ends_out]
  refine (shapeCast_apply _ _ (ix4 16 1 16 64 b 0 h d) (ix2 16 1024 b (col h d)) ?_).trans
    (gathered_value owner (enter (mid m)) (fun c => enter_good (hB c) hQ hK) c b h d)
  refine (Shape.rowMajor_val_two _).trans (Eq.trans ?_ (Shape.rowMajor_val_four _).symm)
  show b.val * 1024 + (64 * h.val + d.val) = ((b.val * 1 + 0) * 16 + h.val) * 64 + d.val
  omega

end Cert.Attn

end
-- ==== Proof.Value.Inputs.lean ====
/- The precondition read back: it says of one device's query and block of keys that no entry is an infinity; of all the
   devices together, that no entry of the whole arrays is. -/
module

public import proofs.«01_k».proof.Proof.Value.Arrays
public import proofs.«01_k».proof.Proof.Gen.Pre_finite_qk_KernelIdeal
public import Idealize.ShloMosaic.Lib.ReduceAll
public import Idealize.ShloMosaic.Lib.IdealHost

@[expose] public section

noncomputable section

namespace Cert.Attn

open Idealize.ShloMosaic Idealize.ShloMosaic.TcCoe

/-- The bit pattern of plus infinity. -/
theorem ofBits_top : Ideal.ofBits .f32 0x7F800000#32 = (⊤ : EReal) := by
  simp [Ideal.ofBits, Ideal.ieee]

/-- An extended real whose absolute value is below plus infinity is neither infinity. -/
theorem ne_of_abs_lt (a : EReal) (h : Ideal.cmp .olt (max a (-a)) ⊤ = 1#1) : a ≠ ⊤ ∧ a ≠ ⊥ := by
  constructor
  · rintro rfl
    simp [Ideal.cmp] at h
  · rintro rfl
    simp [Ideal.cmp] at h

/-- The precondition of one device's arguments: its query and its keys are finite. -/
theorem finite_of_pre (q : FVec Ideal Cert.Pre_finite_qk_KernelIdeal.S16x1x16x64 .f32) (k v : FVec Ideal Cert.Pre_finite_qk_KernelIdeal.S16x1024x16x64 .f32)
    (h : Cert.Pre_finite_qk_KernelIdeal.fn (F := Ideal) q k v = fun _ => 1#1) : Finite q ∧ Finite k := by
  have h0 := congrFun h ValueIdx.ix0
  obtain ⟨h1, h2⟩ := IntOp.andi_eq_one.1 h0
  haveI : Subsingleton Cert.Pre_finite_qk_KernelIdeal.S_.Idx := ⟨fun a b => funext fun i => i.elim0⟩
  refine ⟨fun i => ne_of_abs_lt _ ?_, fun i => ne_of_abs_lt _ ?_⟩
  · have := Host.reduce_andi_all _ _ _ _ _ h1 i
    rw [← ofBits_top]
    exact this
  · have := Host.reduce_andi_all _ _ _ _ _ h2 i
    rw [← ofBits_top]
    exact this

/-- Finite in each device's block, an array is finite at every key. -/
theorem finite_key {K : (⟨4, ![16, 2048, 16, 64]⟩ : Shape).Idx → EReal}
    (hf : ∀ c : Dev Cert.KernelIdeal.nD, Finite (Layout.blockN ⟨4, ![16, 1024, 16, 64]⟩ ⟨4, ![16, 2048, 16, 64]⟩ (Layout.meshBlock [2, 2, 2] ![[], [1], [], []] c) K
      : (⟨4, ![16, 1024, 16, 64]⟩ : Shape).Idx → EReal)) (b : Fin 16) (k : Fin 2048) (h : Fin 16) (d : Fin 64) :
    K (Cert.KernelIdeal.Comb.ix4 16 2048 16 64 b k h d) ≠ ⊤ ∧ K (Cert.KernelIdeal.Comb.ix4 16 2048 16 64 b k h d) ≠ ⊥ := by
  have hk : k ∈ keysOf owner {owner k} := Finset.mem_filter.2 ⟨Finset.mem_univ _, Finset.mem_singleton_self _⟩
  rw [keysOf_single] at hk
  obtain ⟨j, -, hj⟩ := Finset.mem_image.1 hk
  have h' := hf (owner k) (Cert.KernelIdeal.Comb.ix4 16 1024 16 64 b (placeOf (owner k) j) h d)
  rw [block_read, hj] at h'
  exact h'

/-- Finite on every device, the whole queries and keys are finite. -/
theorem finite_whole {Q : (⟨4, ![16, 1, 16, 64]⟩ : Shape).Idx → EReal} {K V : (⟨4, ![16, 2048, 16, 64]⟩ : Shape).Idx → EReal}
    {m : (ℓ : Loc Cert.KernelIdeal.nD Cert.KernelIdeal.τ Cert.KernelIdeal.sig) → Buf (Elt Ideal) ℓ} (hB : ∀ c, Blocks Q K V m c)
    (hf : ∀ c : Dev Cert.KernelIdeal.nD, Finite (m (c.tc.loc Cert.KernelIdeal.main_arg0) : (⟨4, ![16, 1, 16, 64]⟩ : Shape).Idx → EReal)
      ∧ Finite (m (c.tc.loc Cert.KernelIdeal.main_arg1) : (⟨4, ![16, 1024, 16, 64]⟩ : Shape).Idx → EReal)) : Finite Q ∧ Finite K := by
  refine ⟨?_, fun i => ?_⟩
  · have h := (hf 0).1
    rw [(hB 0).1] at h
    exact h
  · have e : Cert.KernelIdeal.Comb.ix4 16 2048 16 64 (i 0) (i 1) (i 2) (i 3) = i := funext fun a => by
      match a with
      | 0 => rfl
      | 1 => rfl
      | 2 => rfl
      | 3 => rfl
    have h := finite_key (K := K) (fun c => by have h := (hf c).2; rw [(hB c).2.1] at h; exact h) (i 0) (i 1) (i 2) (i 3)
    exact e ▸ h

end Cert.Attn

end
-- ==== Proof.Value.Reference.lean ====
/- What the reference computes: at every batch, head and channel the attention over all 2048 keys. -/
module

public import proofs.«01_k».proof.Proof.Value.Attention
public import proofs.«01_k».proof.Proof.Gen.ReferenceIdeal
public import Idealize.ShloMosaic.Lib.IdealHost

@[expose] public section

noncomputable section

namespace Cert.Attn.Ref

open Idealize.ShloMosaic Cert.ReferenceIdeal Cert.ReferenceIdeal.Gen
open Cert.KernelIdeal.Comb (ix2 ix3 ix4)
open Idealize.ShloMosaic.ValueIdx (contrEquiv1 contrEquiv1_symm_val)
open scoped BigOperators

/-- The scaled scores. -/
def logits (Q : FVec Ideal S16x1x16x64 .f32) (K : FVec Ideal S16x2048x16x64 .f32) : FVec Ideal S16x16x1x2048 .f32 :=
  mulf (Host.dotGeneral dot_S16x1x16x64_S16x2048x16x64_S16x16x1x2048_3_3_1_1_02_02 none Q K)
    (broadcastInDim S16x16x1x2048 ![] bcast_S_S16x16x1x2048 (constant S_ .f32 0x3E000000#32))

/-- The largest score of each row. -/
def peak (x : FVec Ideal S16x16x1x2048 .f32) : FVec Ideal S16x16x1 .f32 :=
  Host.reduce FloatOps.maximumf x (constant (F := Ideal) S_ .f32 0xFF800000#32) reducesTo_S16x16x1x2048_S16x16x1_d3 h_S_

/-- A value per row, repeated along the row. -/
def along (y : FVec Ideal S16x16x1 .f32) : FVec Ideal S16x16x1x2048 .f32 :=
  broadcastInDim S16x16x1x2048 ![0, 1, 2, 3] bcast_S16x16x1x1_S16x16x1x2048_0_1_2_3
    (broadcastInDim S16x16x1x1 ![0, 1, 2] bcast_S16x16x1_S16x16x1x1_0_1_2 y)

/-- The exponentials of the scores less their row's largest. -/
def expo (x : FVec Ideal S16x16x1x2048 .f32) : FVec Ideal S16x16x1x2048 .f32 := Host.exp (subf x (along (peak x)))

/-- The sum of each row. -/
def total (x : FVec Ideal S16x16x1x2048 .f32) : FVec Ideal S16x16x1 .f32 :=
  Host.reduceAdd x (constant (F := Ideal) S_ .f32 0x00000000#32) reducesTo_S16x16x1x2048_S16x16x1_d3 h_S_

/-- The weights. -/
def probs (x : FVec Ideal S16x16x1x2048 .f32) : FVec Ideal S16x16x1x2048 .f32 := Host.divf (expo x) (along (total (expo x)))

/-- The reference's result. -/
def result (Q : FVec Ideal S16x1x16x64 .f32) (K V : FVec Ideal S16x2048x16x64 .f32) : FVec Ideal S16x1x16x64 .f32 :=
  transpose S16x1x16x64 [0, 3, 1, 2]
    (Host.dotGeneral dot_S16x2048x16x64_S16x16x1x2048_S16x16x64x1_1_3_3_2_02_01 none V (probs (logits Q K)))
    transposes_S16x16x64x1_S16x1x16x64_0_3_1_2

/-- The product of queries and keys at an index. -/
theorem dot_qk (Q : FVec Ideal S16x1x16x64 .f32) (K : FVec Ideal S16x2048x16x64 .f32) (b h : Fin 16) (k : Fin 2048) :
    Host.dotGeneral dot_S16x1x16x64_S16x2048x16x64_S16x16x1x2048_3_3_1_1_02_02 none Q K (ix4 16 16 1 2048 b h 0 k)
      = ∑ d : Fin 64, Q (ix4 16 1 16 64 b 0 h d) * K (ix4 16 2048 16 64 b k h d) := by
  refine (Ideal.dotGeneral_apply _ _ _ Q K _).trans ?_
  rw [← Equiv.sum_comp (contrEquiv1 dot_S16x1x16x64_S16x2048x16x64_S16x16x1x2048_3_3_1_1_02_02 64 rfl rfl).symm]
  refine Finset.sum_congr rfl fun d _ => congrArg₂ (· * ·) (congrArg Q (funext fun a => Fin.ext ?_)) (congrArg K (funext fun a => Fin.ext ?_))
  · match a with
    | 0 => rfl
    | 1 => rfl
    | 2 => rfl
    | 3 => exact contrEquiv1_symm_val dot_S16x1x16x64_S16x2048x16x64_S16x16x1x2048_3_3_1_1_02_02 64 rfl rfl d
  · match a with
    | 0 => rfl
    | 1 => rfl
    | 2 => rfl
    | 3 => exact contrEquiv1_symm_val dot_S16x1x16x64_S16x2048x16x64_S16x16x1x2048_3_3_1_1_02_02 64 rfl rfl d

/-- The product of values and weights at an index. -/
theorem dot_vp (V : FVec Ideal S16x2048x16x64 .f32) (P : FVec Ideal S16x16x1x2048 .f32) (b h : Fin 16) (d : Fin 64) :
    Host.dotGeneral dot_S16x2048x16x64_S16x16x1x2048_S16x16x64x1_1_3_3_2_02_01 none V P (ix4 16 16 64 1 b h d 0)
      = ∑ k : Fin 2048, V (ix4 16 2048 16 64 b k h d) * P (ix4 16 16 1 2048 b h 0 k) := by
  refine (Ideal.dotGeneral_apply _ _ _ V P _).trans ?_
  rw [← Equiv.sum_comp (contrEquiv1 dot_S16x2048x16x64_S16x16x1x2048_S16x16x64x1_1_3_3_2_02_01 2048 rfl rfl).symm]
  refine Finset.sum_congr rfl fun k _ => congrArg₂ (· * ·) (congrArg V (funext fun a => Fin.ext ?_)) (congrArg P (funext fun a => Fin.ext ?_))
  · match a with
    | 0 => rfl
    | 1 => exact contrEquiv1_symm_val dot_S16x2048x16x64_S16x16x1x2048_S16x16x64x1_1_3_3_2_02_01 2048 rfl rfl k
    | 2 => rfl
    | 3 => rfl
  · match a with
    | 0 => rfl
    | 1 => rfl
    | 2 => rfl
    | 3 => exact contrEquiv1_symm_val dot_S16x2048x16x64_S16x16x1x2048_S16x16x64x1_1_3_3_2_02_01 2048 rfl rfl k

/-- The scaled scores are the real scores. -/
theorem logits_apply {Q : FVec Ideal S16x1x16x64 .f32} {K : FVec Ideal S16x2048x16x64 .f32} (hQ : Finite Q) (hK : Finite K)
    (b h : Fin 16) (k : Fin 2048) : logits Q K (ix4 16 16 1 2048 b h 0 k) = (sc Q K b h k : EReal) := by
  rw [← score_real hQ hK, ← dot_qk, ← ofBits_eighth]
  rfl

/-- A value per row at an index. -/
theorem along_apply (y : FVec Ideal S16x16x1 .f32) (b h : Fin 16) (k : Fin 2048) :
    along y (ix4 16 16 1 2048 b h 0 k) = y (ix3 16 16 1 b h 0) := by
  unfold along
  refine (broadcastInDim_apply _ _ _ (ix4 16 16 1 2048 b h 0 k) (ix4 16 16 1 1 b h 0 0) fun a => ?_).trans
    (broadcastInDim_apply _ _ _ (ix4 16 16 1 1 b h 0 0) (ix3 16 16 1 b h 0) fun a => ?_)
  · match a with
    | 0 => rfl
    | 1 => rfl
    | 2 => rfl
    | 3 => rfl
  · match a with
    | 0 => rfl
    | 1 => rfl
    | 2 => rfl

/-- The last axis of the scores, summed or folded away, leaves the rows. -/
theorem reduces_row : S16x16x1x2048.Reduces [3] S16x16x1 := by decide

/-- The entries of row `b`, `h`. -/
theorem lift_row (b h : Fin 16) (k : Fin 2048) : reduces_row.lift (ix3 16 16 1 b h 0) k = ix4 16 16 1 2048 b h 0 k :=
  funext fun a => Fin.ext (by
    match a with
    | 0 => rfl
    | 1 => rfl
    | 2 => rfl
    | 3 => rfl)

/-- The largest of a row of real scores is real. -/
theorem peak_real (x : FVec Ideal S16x16x1x2048 .f32) (b h : Fin 16) (r : Fin 2048 → ℝ)
    (hr : ∀ k, x (ix4 16 16 1 2048 b h 0 k) = (r k : EReal)) : ∃ M : ℝ, peak x (ix3 16 16 1 b h 0) = (M : EReal) := by
  obtain ⟨M, hM⟩ := fold_max_real (Finset.univ_nonempty (α := Fin 2048)) r
  refine ⟨M, ?_⟩
  unfold peak
  refine (Host.reduce_eq_fold_single _ x _ _ reduces_row _ _).trans ?_
  rw [← hM]
  show Finset.fold max (Ideal.ofBits .f32 0xFF800000#32) _ _ = _
  rw [ofBits_bot]
  exact congrArg (fun f => Finset.fold max (⊥ : EReal) f Finset.univ) (funext fun k => (congrArg x (lift_row b h k)).trans (hr k))

/-- The sum of a row. -/
theorem total_apply (x : FVec Ideal S16x16x1x2048 .f32) (b h : Fin 16) :
    total x (ix3 16 16 1 b h 0) = ∑ k : Fin 2048, x (ix4 16 16 1 2048 b h 0 k) := by
  unfold total
  refine (ValueIdx.hostReduceAdd_apply x _ _ _ _).trans ((Ideal.hostReduceAdd_single _ reduces_row x _ _).trans ?_)
  show Ideal.ofBits .f32 0x00000000#32 + _ = _
  rw [Ideal.ofBits_zero_f32, zero_add]
  exact Finset.sum_congr rfl fun k _ => congrArg x (lift_row b h k)

/-- THE REFERENCE: with queries and keys finite, its result at batch `b`, head `h`, channel `d` is the attention over all the keys. -/
theorem result_apply {Q : FVec Ideal S16x1x16x64 .f32} {K : FVec Ideal S16x2048x16x64 .f32} (V : FVec Ideal S16x2048x16x64 .f32)
    (hQ : Finite Q) (hK : Finite K) (b h : Fin 16) (d : Fin 64) :
    result Q K V (ix4 16 1 16 64 b 0 h d) = soft Finset.univ (sc Q K b h) (vl V b h d) := by
  obtain ⟨M, hM⟩ := peak_real (logits Q K) b h _ (logits_apply hQ hK b h)
  have he : ∀ k, expo (logits Q K) (ix4 16 16 1 2048 b h 0 k) = (Real.exp (sc Q K b h k - M) : EReal) := fun k => by
    show Ideal.exp (logits Q K (ix4 16 16 1 2048 b h 0 k) - along _ (ix4 16 16 1 2048 b h 0 k)) = _
    rw [logits_apply hQ hK, along_apply, hM, ← EReal.coe_sub, Ideal.exp_coe]
  have ht : total (expo (logits Q K)) (ix3 16 16 1 b h 0) = ((∑ k, Real.exp (sc Q K b h k - M) : ℝ) : EReal) := by
    rw [total_apply, coe_sum]
    exact Finset.sum_congr rfl fun k _ => he k
  have hp : ∀ k, probs (logits Q K) (ix4 16 16 1 2048 b h 0 k)
      = Ideal.div (Real.exp (sc Q K b h k - M) : EReal) ((∑ j, Real.exp (sc Q K b h j - M) : ℝ) : EReal) := fun k => by
    show Ideal.div (expo (logits Q K) (ix4 16 16 1 2048 b h 0 k)) (along _ (ix4 16 16 1 2048 b h 0 k)) = _
    rw [he, along_apply, ht]
  refine (transpose_apply _ _ _ (ix4 16 1 16 64 b 0 h d) (ix4 16 16 64 1 b h d 0) fun a => ?_).trans ?_
  · match a with
    | 0 => rfl
    | 1 => rfl
    | 2 => rfl
    | 3 => rfl
  rw [dot_vp, ← soft_of_weights Finset.univ_nonempty (sc Q K b h) (vl V b h d) M]
  exact Finset.sum_congr rfl fun k _ => by rw [hp k]; rfl

end Cert.Attn.Ref

end
-- ==== Proof.Value.Equation.lean ====
/- The equation: from the same whole arrays, finite in queries and keys, every device's result is the reference's. -/
module

public import proofs.«01_k».proof.Proof.Value.Inputs
public import proofs.«01_k».proof.Proof.Value.Reference

@[expose] public section

noncomputable section

namespace Cert.Attn

open Idealize.ShloMosaic Idealize.ShloMosaic.TcCoe

/-- Two results equal at every batch, head and channel are equal. -/
theorem result_ext (x y : (⟨4, ![16, 1, 16, 64]⟩ : Shape).Idx → EReal)
    (h : ∀ (b h : Fin 16) (d : Fin 64), x (Cert.KernelIdeal.Comb.ix4 16 1 16 64 b 0 h d) = y (Cert.KernelIdeal.Comb.ix4 16 1 16 64 b 0 h d)) : x = y :=
  funext fun i => by
    have e : Cert.KernelIdeal.Comb.ix4 16 1 16 64 (i 0) 0 (i 2) (i 3) = i := funext fun a => by
      match a with
      | 0 => rfl
      | 1 => exact Fin.ext (by have h1 : (i 1).val < 1 := (i 1).isLt; show 0 = (i 1).val; omega)
      | 2 => rfl
      | 3 => rfl
    have h' := h (i 0) (i 2) (i 3)
    exact e ▸ h'

/-- THE EQUATION. -/
theorem equation {Q : (⟨4, ![16, 1, 16, 64]⟩ : Shape).Idx → EReal} {K V : (⟨4, ![16, 2048, 16, 64]⟩ : Shape).Idx → EReal}
    {m : (ℓ : Loc Cert.KernelIdeal.nD Cert.KernelIdeal.τ Cert.KernelIdeal.sig) → Buf (Elt Ideal) ℓ} (hB : ∀ c, Blocks Q K V m c)
    (hQ : Finite Q) (hK : Finite K) (c : Dev Cert.KernelIdeal.nD) :
    (Cert.KernelIdeal.Comb.ends m c Cert.KernelIdeal.main_v20 : (⟨4, ![16, 1, 16, 64]⟩ : Shape).Idx → EReal) = Ref.result Q K V :=
  result_ext _ _ fun b h d => (kernel_apply hB hQ hK c b h d).trans (Ref.result_apply V hQ hK b h d).symm

end Cert.Attn

end
-- ==== Proof.lean ====
/- The certificate: the three programs run, keep their arguments and leave every counter at zero; the kernel over the
   extended reals is the kernel's own text; and, the queries and keys finite, every device's result is the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_finite_qk_KernelIdeal
public import proofs.«01_k».proof.Proof.Gen.Pre_finite_qk_ReferenceIdeal
public import proofs.«01_k».proof.Proof.Kernel.Ends
public import proofs.«01_k».proof.Proof.KernelIdeal.Ends
public import proofs.«01_k».proof.Proof.Value.Equation
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem

/-- The kernel as printed runs, keeps its arguments and leaves every counter at zero. -/
theorem kernel_frame : Cert.quiescent_Kernel (hKernel := Cert.Kernel.Gen.facts) := fun m g _ =>
  (θ_run _ _ _).mono (fun _ h => ⟨fun c => ⟨(h.1 c).1, (h.1 c).2.1, (h.1 c).2.2.1⟩, h.2⟩) (Cert.Kernel.Comb.run_args m g)

/-- The kernel read over the extended reals runs, keeps its arguments and leaves every counter at zero. -/
theorem kernelIdeal_frame : Cert.quiescent_KernelIdeal (hKernelIdeal := Cert.KernelIdeal.Gen.facts) := fun m g _ =>
  (θ_run _ _ _).mono (fun _ h => ⟨fun c => ⟨(h.1 c).1, (h.1 c).2.1, (h.1 c).2.2.1⟩, h.2⟩)
    (Cert.KernelIdeal.Comb.run_args m g)

/-- The reference read over the extended reals runs, keeps its arguments and leaves every counter at zero. -/
theorem reference_frame : Cert.quiescent_ReferenceIdeal (hReferenceIdeal := Cert.ReferenceIdeal.Gen.facts) := fun m g _ =>
  (θ_run _ _ _).mono (fun _ h => ⟨fun c => (h c).2, sem_eq_zero_of_no_sems rfl _⟩) (Cert.ReferenceIdeal.Value.run m g)

/-- From the same whole arrays, finite in queries and keys, both run, and every device of the kernel ends with the reference's result. -/
theorem value : Cert.algebraic_KernelIdeal_ReferenceIdeal_pre_finite_qk_KernelIdeal (hKernelIdeal := Cert.KernelIdeal.Gen.facts)
    (hReferenceIdeal := Cert.ReferenceIdeal.Gen.facts) (hPre_finite_qk_KernelIdeal := Cert.Pre_finite_qk_KernelIdeal.Gen.facts) :=
  fun m g m' g' hpre hin => by
    have hf := fun c => Cert.Attn.finite_of_pre _ _ _ (hpre c)
    have hB : ∀ c, Cert.Attn.Blocks _ _ _ m c := hin
    obtain ⟨hQ, hK⟩ := Cert.Attn.finite_whole hB hf
    refine ⟨Cert.Attn.Ref.result
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2)), ?_, ?_⟩
    · exact (θ_run _ _ _).mono (fun _ h c => ⟨(h.1 c).2.2.2.trans (Cert.Attn.equation hB hQ hK c), (h.1 c).1, (h.1 c).2.1, (h.1 c).2.2.1⟩)
        (Cert.KernelIdeal.Comb.run_args m g)
    · exact (θ_run _ _ _).mono (fun _ h => h 0) (Cert.ReferenceIdeal.Value.run m' g')

/-- Everything claimed. -/
theorem claim : Cert.Claim :=
  ⟨Cert.Kernel.Gen.facts, Cert.KernelIdeal.Gen.facts, Cert.ReferenceIdeal.Gen.facts,
    Cert.Pre_finite_qk_KernelIdeal.Gen.facts, Cert.Pre_finite_qk_ReferenceIdeal.Gen.facts,
    kernel_frame, kernelIdeal_frame, fun m g _ => kernelIdeal_frame m g trivial,
    reference_frame, fun m g _ => reference_frame m g trivial, trivial, value⟩

end Cert.Proof

end
